-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S8x512x256 : Shape := ⟨3, ![8, 512, 256]⟩
abbrev S8x128 : Shape := ⟨2, ![8, 128]⟩
abbrev S_ : Shape := ⟨0, ![]⟩
abbrev S8 : Shape := ⟨1, ![8]⟩
abbrev S512x256 : Shape := ⟨2, ![512, 256]⟩
abbrev S1x512x256 : Shape := ⟨3, ![1, 512, 256]⟩
abbrev S1 : Shape := ⟨1, ![1]⟩
abbrev S1x1x1 : Shape := ⟨3, ![1, 1, 1]⟩
abbrev S128 : Shape := ⟨1, ![128]⟩
abbrev S1x128 : Shape := ⟨2, ![1, 128]⟩
abbrev S1x8x128 : Shape := ⟨3, ![1, 8, 128]⟩

abbrev nBuf : Space → Nat
  | .hbm => 3
  | .vmem => 10
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .bf16⟩
  | .local _ .vmem, ⟨0, _⟩ => ⟨S4096x256, .bf16⟩
  | .local _ .vmem, ⟨1, _⟩ => ⟨S512x4096, .f32⟩
  | .local _ .vmem, ⟨2, _⟩ => ⟨S512x4096, .bf16⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S8x512x256, .bf16⟩
  | .local _ .vmem, ⟨8, _⟩ => ⟨S8x512x256, .bf16⟩
  | .local _ .vmem, ⟨9, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_30 : BitVec 32) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let v33 : BitVec 32 := Scalar.addi v32 c0_i32_30
  let c8_i32_31 : BitVec 32 := 8#32
  let v34 : BitVec 32 := Scalar.remsi v33 c8_i32_31
  let c256_i32 : BitVec 32 := 256#32
  let v35 : BitVec 32 := Scalar.muli v34 c256_i32
  ![0, v35.toNat]
def k0_off2 (d0 : Dev nD) (c0_i32_47 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v52 : BitVec 32 := Scalar.addi v2 c1_i32_46
  let v53 : BitVec 32 := Scalar.addi v52 c0_i32_47
  let c8_i32_48 : BitVec 32 := 8#32
  let v54 : BitVec 32 := Scalar.remsi v53 c8_i32_48
  let v77 : Index := Scalar.indexCast v54
  let c0_66 : Index := 0#32
  let c0_67 : Index := 0#32
  ![v77.toNat, 0, 0]
def k0_off3 (d0 : Dev nD) (c0_i32_47 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v52 : BitVec 32 := Scalar.addi v2 c1_i32_46
  let v53 : BitVec 32 := Scalar.addi v52 c0_i32_47
  let c8_i32_48 : BitVec 32 := 8#32
  let v54 : BitVec 32 := Scalar.remsi v53 c8_i32_48
  ![v54.toNat]
def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_70 : BitVec 32 := 0#32
  let c0_i32_71 : BitVec 32 := 0#32
  ![v2.toNat, 0, 0]
def k0_off6 (d0 : Dev nD) (c0_i32_47 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v52 : BitVec 32 := Scalar.addi v2 c1_i32_46
  let v53 : BitVec 32 := Scalar.addi v52 c0_i32_47
  let c8_i32_48 : BitVec 32 := 8#32
  let v54 : BitVec 32 := Scalar.remsi v53 c8_i32_48
  let c0_i32_72 : BitVec 32 := 0#32
  let c0_i32_73 : BitVec 32 := 0#32
  ![v54.toNat, 0, 0]
def k0_dev8 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v52 : BitVec 32 := Scalar.addi v2 c1_i32_46
  let c0_i32_47 : BitVec 32 := 0#32
  let v53 : BitVec 32 := Scalar.addi v52 c0_i32_47
  let c8_i32_48 : BitVec 32 := 8#32
  let v54 : BitVec 32 := Scalar.remsi v53 c8_i32_48
  let c1_i32_68 : BitVec 32 := 1#32
  let v81 : BitVec 32 := Scalar.muli v54 c1_i32_68
  let v82 : BitVec 32 := Scalar.addi c0_i32_69 v81
  v82.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v91 : BitVec 32 := Scalar.addi v2 c1_i32_74
  let c1_i32_75 : BitVec 32 := 1#32
  let v92 : BitVec 32 := Scalar.addi v91 c1_i32_75
  let c8_i32_76 : BitVec 32 := 8#32
  let v93 : BitVec 32 := Scalar.remsi v92 c8_i32_76
  let c1_i32_96 : BitVec 32 := 1#32
  let v120 : BitVec 32 := Scalar.muli v93 c1_i32_96
  let v121 : BitVec 32 := Scalar.addi c0_i32_97 v120
  v121.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v130 : BitVec 32 := Scalar.addi v2 c1_i32_102
  let c2_i32_103 : BitVec 32 := 2#32
  let v131 : BitVec 32 := Scalar.addi v130 c2_i32_103
  let c8_i32_104 : BitVec 32 := 8#32
  let v132 : BitVec 32 := Scalar.remsi v131 c8_i32_104
  let c1_i32_124 : BitVec 32 := 1#32
  let v159 : BitVec 32 := Scalar.muli v132 c1_i32_124
  let v160 : BitVec 32 := Scalar.addi c0_i32_125 v159
  v160.toNat
def k0_dev11 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_130 : BitVec 32 := 1#32
  let v169 : BitVec 32 := Scalar.addi v2 c1_i32_130
  let c3_i32_131 : BitVec 32 := 3#32
  let v170 : BitVec 32 := Scalar.addi v169 c3_i32_131
  let c8_i32_132 : BitVec 32 := 8#32
  let v171 : BitVec 32 := Scalar.remsi v170 c8_i32_132
  let c1_i32_152 : BitVec 32 := 1#32
  let v198 : BitVec 32 := Scalar.muli v171 c1_i32_152
  let v199 : BitVec 32 := Scalar.addi c0_i32_153 v198
  v199.toNat
def k0_dev12 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_158 : BitVec 32 := 1#32
  let v208 : BitVec 32 := Scalar.addi v2 c1_i32_158
  let c4_i32_159 : BitVec 32 := 4#32
  let v209 : BitVec 32 := Scalar.addi v208 c4_i32_159
  let c8_i32_160 : BitVec 32 := 8#32
  let v210 : BitVec 32 := Scalar.remsi v209 c8_i32_160
  let c1_i32_180 : BitVec 32 := 1#32
  let v237 : BitVec 32 := Scalar.muli v210 c1_i32_180
  let v238 : BitVec 32 := Scalar.addi c0_i32_181 v237
  v238.toNat
def k0_dev13 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_186 : BitVec 32 := 1#32
  let v247 : BitVec 32 := Scalar.addi v2 c1_i32_186
  let c5_i32_187 : BitVec 32 := 5#32
  let v248 : BitVec 32 := Scalar.addi v247 c5_i32_187
  let c8_i32_188 : BitVec 32 := 8#32
  let v249 : BitVec 32 := Scalar.remsi v248 c8_i32_188
  let c1_i32_203 : BitVec 32 := 1#32
  let v271 : BitVec 32 := Scalar.muli v249 c1_i32_203
  let v272 : BitVec 32 := Scalar.addi c0_i32_204 v271
  v272.toNat
def k0_dev14 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_209 : BitVec 32 := 1#32
  let v281 : BitVec 32 := Scalar.addi v2 c1_i32_209
  let c6_i32_210 : BitVec 32 := 6#32
  let v282 : BitVec 32 := Scalar.addi v281 c6_i32_210
  let c8_i32_211 : BitVec 32 := 8#32
  let v283 : BitVec 32 := Scalar.remsi v282 c8_i32_211
  let c1_i32_226 : BitVec 32 := 1#32
  let v305 : BitVec 32 := Scalar.muli v283 c1_i32_226
  let v306 : BitVec 32 := Scalar.addi c0_i32_227 v305
  v306.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v332 : Index := Scalar.indexCast v2
  let c0_244 : Index := 0#32
  let c0_245 : Index := 0#32
  ![v332.toNat, 0, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v337 : Index := Scalar.indexCast v2
  let c0_246 : Index := 0#32
  ![v337.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_252 : BitVec 32 := 0#32
  ![v2.toNat, 0]
def k0_dev15 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_247 : BitVec 32 := 1#32
  let v341 : BitVec 32 := Scalar.addi v2 c1_i32_247
  let c8_i32_248 : BitVec 32 := 8#32
  let v342 : BitVec 32 := Scalar.remsi v341 c8_i32_248
  let c1_i32_250 : BitVec 32 := 1#32
  let v343 : BitVec 32 := Scalar.muli v342 c1_i32_250
  let v344 : BitVec 32 := Scalar.addi c0_i32_251 v343
  v344.toNat
def k0_dev16 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_254 : BitVec 32 := 2#32
  let v353 : BitVec 32 := Scalar.addi v2 c2_i32_254
  let c8_i32_255 : BitVec 32 := 8#32
  let v354 : BitVec 32 := Scalar.remsi v353 c8_i32_255
  let c1_i32_257 : BitVec 32 := 1#32
  let v355 : BitVec 32 := Scalar.muli v354 c1_i32_257
  let v356 : BitVec 32 := Scalar.addi c0_i32_258 v355
  v356.toNat
def k0_dev17 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_261 : BitVec 32 := 3#32
  let v365 : BitVec 32 := Scalar.addi v2 c3_i32_261
  let c8_i32_262 : BitVec 32 := 8#32
  let v366 : BitVec 32 := Scalar.remsi v365 c8_i32_262
  let c1_i32_264 : BitVec 32 := 1#32
  let v367 : BitVec 32 := Scalar.muli v366 c1_i32_264
  let v368 : BitVec 32 := Scalar.addi c0_i32_265 v367
  v368.toNat
def k0_dev18 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_268 : BitVec 32 := 4#32
  let v377 : BitVec 32 := Scalar.addi v2 c4_i32_268
  let c8_i32_269 : BitVec 32 := 8#32
  let v378 : BitVec 32 := Scalar.remsi v377 c8_i32_269
  let c1_i32_271 : BitVec 32 := 1#32
  let v379 : BitVec 32 := Scalar.muli v378 c1_i32_271
  let v380 : BitVec 32 := Scalar.addi c0_i32_272 v379
  v380.toNat
def k0_dev19 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_275 : BitVec 32 := 5#32
  let v389 : BitVec 32 := Scalar.addi v2 c5_i32_275
  let c8_i32_276 : BitVec 32 := 8#32
  let v390 : BitVec 32 := Scalar.remsi v389 c8_i32_276
  let c1_i32_278 : BitVec 32 := 1#32
  let v391 : BitVec 32 := Scalar.muli v390 c1_i32_278
  let v392 : BitVec 32 := Scalar.addi c0_i32_279 v391
  v392.toNat
def k0_dev20 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_282 : BitVec 32 := 6#32
  let v401 : BitVec 32 := Scalar.addi v2 c6_i32_282
  let c8_i32_283 : BitVec 32 := 8#32
  let v402 : BitVec 32 := Scalar.remsi v401 c8_i32_283
  let c1_i32_285 : BitVec 32 := 1#32
  let v403 : BitVec 32 := Scalar.muli v402 c1_i32_285
  let v404 : BitVec 32 := Scalar.addi c0_i32_286 v403
  v404.toNat
def k0_dev21 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_289 : BitVec 32 := 7#32
  let v413 : BitVec 32 := Scalar.addi v2 c7_i32_289
  let c8_i32_290 : BitVec 32 := 8#32
  let v414 : BitVec 32 := Scalar.remsi v413 c8_i32_290
  let c1_i32_292 : BitVec 32 := 1#32
  let v415 : BitVec 32 := Scalar.muli v414 c1_i32_292
  let v416 : BitVec 32 := Scalar.addi c0_i32_293 v415
  v416.toNat
def k0_off10 (d0 : Dev nD) (c1_i32_296 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v425 : BitVec 32 := Scalar.addi v2 c1_i32_296
  let c8_i32_297 : BitVec 32 := 8#32
  let v426 : BitVec 32 := Scalar.remsi v425 c8_i32_297
  ![v426.toNat]
def k0_off11 (d0 : Dev nD) (c1_i32_296 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v425 : BitVec 32 := Scalar.addi v2 c1_i32_296
  let c8_i32_297 : BitVec 32 := 8#32
  let v426 : BitVec 32 := Scalar.remsi v425 c8_i32_297
  let c0_i32_301 : BitVec 32 := 0#32
  ![v426.toNat, 0]
def k0_off12 (d0 : Dev nD) (c0_i32_352 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_350 : BitVec 32 := 8#32
  let v502 : BitVec 32 := Scalar.addi v2 c8_i32_350
  let c1_i32_351 : BitVec 32 := 1#32
  let v503 : BitVec 32 := Scalar.subi v502 c1_i32_351
  let v504 : BitVec 32 := Scalar.subi v503 c0_i32_352
  let c8_i32_353 : BitVec 32 := 8#32
  let v505 : BitVec 32 := Scalar.remsi v504 c8_i32_353
  ![v505.toNat]
def k0_off13 (d0 : Dev nD) (c0_i32_352 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_350 : BitVec 32 := 8#32
  let v502 : BitVec 32 := Scalar.addi v2 c8_i32_350
  let c1_i32_351 : BitVec 32 := 1#32
  let v503 : BitVec 32 := Scalar.subi v502 c1_i32_351
  let v504 : BitVec 32 := Scalar.subi v503 c0_i32_352
  let c8_i32_353 : BitVec 32 := 8#32
  let v505 : BitVec 32 := Scalar.remsi v504 c8_i32_353
  let c0_i32_357 : BitVec 32 := 0#32
  let c0_i32_358 : BitVec 32 := 0#32
  ![v505.toNat, 0, 0]
def k0_off14 (d0 : Dev nD) (c0_i32_352 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_350 : BitVec 32 := 8#32
  let v502 : BitVec 32 := Scalar.addi v2 c8_i32_350
  let c1_i32_351 : BitVec 32 := 1#32
  let v503 : BitVec 32 := Scalar.subi v502 c1_i32_351
  let v504 : BitVec 32 := Scalar.subi v503 c0_i32_352
  let c8_i32_353 : BitVec 32 := 8#32
  let v505 : BitVec 32 := Scalar.remsi v504 c8_i32_353
  let v514 : Index := Scalar.indexCast v505
  let c0_361 : Index := 0#32
  let c0_362 : Index := 0#32
  ![v514.toNat, 0, 0]
def k0_off15 (d0 : Dev nD) (c0_i32_352 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_350 : BitVec 32 := 8#32
  let v502 : BitVec 32 := Scalar.addi v2 c8_i32_350
  let c1_i32_351 : BitVec 32 := 1#32
  let v503 : BitVec 32 := Scalar.subi v502 c1_i32_351
  let v504 : BitVec 32 := Scalar.subi v503 c0_i32_352
  let c8_i32_353 : BitVec 32 := 8#32
  let v505 : BitVec 32 := Scalar.remsi v504 c8_i32_353
  let c512_i32 : BitVec 32 := 512#32
  let v527 : BitVec 32 := Scalar.muli v505 c512_i32
  let v528 : Index := Scalar.indexCast v527
  let c0_364 : Index := 0#32
  ![v528.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_464 : BitVec 32 := 512#32
  let v711 : BitVec 32 := Scalar.muli v2 c512_i32_464
  let v712 : Index := Scalar.indexCast v711
  let c0_465 : Index := 0#32
  ![v712.toNat, 0]
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 24
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .fp8e4m3⟩
  | .hbm, ⟨22, _⟩ => ⟨S1x1, .f32⟩
  | .hbm, ⟨23, _⟩ => ⟨S4096x2048, .bf16⟩
  | .local _ .vmem, ⟨0, _⟩ => ⟨S4096x2048, .fp8e4m3⟩
  | .local _ .vmem, ⟨1, _⟩ => ⟨S1x1, .f32⟩
  | .local _ .vmem, ⟨2, _⟩ => ⟨S4096x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Shape.lean ====
/- The kernel's body, written again as a short sequence of named steps.

   The printed body is 1471 statements cut into windows at fixed counts. Here the same operations are grouped by what
   they do: a round of the product loop, a send of the row of maxima, a wait, a block of the output. A step that the
   kernel repeats is one definition at a symbolic trip, so that each is proved once. `body_shape` says that the printed
   body is this sequence. -/
module

public import proofs.«01_k».proof.Proof.Gen.KernelIdeal.Frame

@[expose] public section

noncomputable section

namespace Cert.KernelIdeal.A2A

open Idealize.ShloMosaic Idealize.ShloMosaic.TcCoe
open Idealize.SL.Sem
open Cert.KernelIdeal.Gen

variable {F : FTy → Type} [FloatOps F]

/-- Programs of the kernel's core. -/
abbrev KProg (F : FTy → Type) (α : Type) : Type 1 := Prog (TpuEff nD τ sig (Elt F) Λ₀ .tc) α

/-! ## The buffers and the semaphores -/

/-- The device's rows of `x`. -/
abbrev xH : Memref sig .tc .hbm S512x4096 .f32 := Memref.whole main_arg0
/-- The weights. -/
abbrev wH : Memref sig .tc .hbm S4096x2048 .f32 := Memref.whole main_arg1
/-- The output's staging buffer. -/
abbrev outV : Memref sig .tc .vmem S4096x256 .bf16 := Memref.whole cc0_stg0_0
/-- The copy of `x` in vector memory. -/
abbrev xV : Memref sig .tc .vmem S512x4096 .f32 := Memref.whole cc0_scratch0
/-- The same rounded to bf16. -/
abbrev xbV : Memref sig .tc .vmem S512x4096 .bf16 := Memref.whole cc0_scratch1
/-- The blocks that go out. -/
abbrev sendV : Memref sig .tc .vmem S8x512x256 .bf16 := Memref.whole cc0_scratch6
/-- The blocks that come in. -/
abbrev recvV : Memref sig .tc .vmem S8x512x256 .bf16 := Memref.whole cc0_scratch7
/-- The eight devices' maxima, a row each. -/
abbrev amaxV : Memref sig .tc .vmem S8x128 .f32 := Memref.whole cc0_scratch8
/-- The four buffers that the column chunks of the weights are fetched into. -/
abbrev wb0 : Memref sig .tc .vmem S4096x256 .f32 := Memref.whole cc0_scratch2
abbrev wb1 : Memref sig .tc .vmem S4096x256 .f32 := Memref.whole cc0_scratch3
abbrev wb2 : Memref sig .tc .vmem S4096x256 .f32 := Memref.whole cc0_scratch4
abbrev wb3 : Memref sig .tc .vmem S4096x256 .f32 := Memref.whole cc0_scratch5
/-- The barrier semaphore. -/
abbrev barA : Sems sig S_ := SemArray.scalar (sig.barrier 0 rfl)

/-- The `t`-th chunk of the weights that device `c` multiplies by. -/
abbrev wChunk (c : Dev nD) (t : Fin 8) : Memref sig .tc .hbm S4096x256 .f32 :=
  wH.slice (Rect.unit (s := S4096x2048) (k0_off1 c (BitVec.ofNat 32 t.val)) S4096x256.size (k0_off1_inb c t)) (fun _ => rfl)
/-- Semaphore `o` of an array of eight. -/
abbrev semAt (a : DmaSems sig S8) (o : Fin 1 → ℕ) (h : ∀ i, o i + S1.size i ≤ S8.size i) : DmaSem sig :=
  ((a.slice (Rect.unit (s := S8) o S1.size h)).squeeze S_ squeezes_S1_S_).sem
/-- Block `o` of an array of eight blocks. -/
abbrev blkAt (M : Memref sig .tc .vmem S8x512x256 .bf16) (o : Fin 3 → ℕ) (h : ∀ i, o i + S1x512x256.size i ≤ S8x512x256.size i) :
    Memref sig .tc .vmem S512x256 .bf16 :=
  (M.slice (Rect.unit (s := S8x512x256) o S1x512x256.size h) (fun _ => rfl)).squeeze S512x256 squeezes_S1x512x256_S512x256
/-- Row `o` of the maxima. -/
abbrev rowAt (o : Fin 2 → ℕ) (h : ∀ i, o i + S1x128.size i ≤ S8x128.size i) : Memref sig .tc .vmem S128 .f32 :=
  (amaxV.slice (Rect.unit (s := S8x128) o S1x128.size h) (fun _ => rfl)).squeeze S128 squeezes_S1x128_S128

/-! ## The values -/

/-- A block of the activations: the product of the rounded operands, its negative entries replaced by zero. -/
def reluBlk (xb : Vec F S512x4096 .bf16) (w : Vec F S4096x256 .f32) : FVec F S512x256 .f32 :=
  maximumf (matmul dot_S512x4096_S4096x256_S512x256_1_0_0_1_n_n none xb (truncf .bf16 w bitsLt_bf16_f32) (constant S512x256 .f32 0x00000000#32))
    (broadcast S512x256 (Scalar.ofBits .f32 0x00000000#32))
/-- The largest entry of a block. -/
def blkMax (y : FVec F S512x256 .f32) : F .f32 :=
  extractAt ![0, 0, 0] (shapeCast S1x1x1 (multiReduction .maximumf [1, 2] S1 (shapeCast S1x512x256 y shapeCasts_S512x256_S1x512x256) 0xFF800000#32
    reduces_S1x512x256_S1 (.inl rfl) rfl) shapeCasts_S1_S1x1x1) inpos_S1x1x1_p0_0_0
/-- The largest entry of the table of maxima. -/
def tabMax (a : Vec F S8x128 .f32) : F .f32 :=
  extractAt ![0, 0, 0] (shapeCast S1x1x1 (multiReduction .maximumf [1, 2] S1 (shapeCast S1x8x128 a shapeCasts_S8x128_S1x8x128) 0xFF800000#32
    reduces_S1x8x128_S1 (.inl rfl) rfl) shapeCasts_S1_S1x1x1) inpos_S1x1x1_p0_0_0
/-- A block of the output: the block times `r`, clipped above, rounded to fp8 and back, times `s`. -/
def quantBlk (r s : F .f32) (y : FVec F S512x256 .bf16) : FVec F S512x256 .bf16 :=
  truncf .bf16 (mulf (extf .f32 (truncf .fp8e4m3 (minimumf (mulf (extf .f32 y bitsLt_bf16_f32) (broadcast S512x256 r))
    (broadcast S512x256 (Scalar.ofBits .f32 0x43E00000#32))) bitsLt_fp8e4m3_f32) bitsLt_fp8e4m3_f32) (broadcast S512x256 s)) bitsLt_bf16_f32

/-! ## The steps -/

/-- Fetch of chunk `t` of the weights into `wb`, completing on `ws`. -/
def fetchP (c : Dev nD) (t : Fin 8) (wb : Memref sig .tc .vmem S4096x256 .f32) (ws : DmaSem sig) (h : wb.view.WordExact) : KProg F PUnit :=
  Prog.lift (.enqueueDma (wChunk c t) (.here wb) (.dma ws) (View.wordExact_bits rfl) h ⟨Or.inl rfl, trivial⟩)

/-- The product of round `t`: wait for the chunk, read both operands. -/
def prodP (c : Dev nD) (t : Fin 8) (wb : Memref sig .tc .vmem S4096x256 .f32) (ws : DmaSem sig) (h : wb.view.WordExact) : KProg F (FVec F S512x256 .f32) := do
  Prog.lift (.waitDma2 ws (wChunk c t) wb (View.wordExact_bits rfl) h)
  let xb ← Prog.lift (.load xbV (Rect.unit (s := S512x4096) ![0, 0] S512x4096.size inb_S512x4096_S512x4096_0_0).toLoadRect (View.loadsAt_vmem h_S512x4096))
  let w ← Prog.lift (.load wb (Rect.unit (s := S4096x256) ![0, 0] S4096x256.size inb_S4096x256_S4096x256_0_0).toLoadRect (View.loadsAt_vmem h_S4096x256))
  pure (reluBlk xb w)

/-- A block written into block `o` of an array of eight (after a read that nothing uses). -/
def putP (M : Memref sig .tc .vmem S8x512x256 .bf16) (o : Fin 3 → ℕ) (h : ∀ i, o i + S1x512x256.size i ≤ S8x512x256.size i) (y : FVec F S512x256 .f32)
    (hs : (M.access (Rect.unit (s := S8x512x256) o S1x512x256.size h)).Stores Finset.univ) : KProg F PUnit := do
  let _ ← Prog.lift (.load M (Rect.unit (s := S8x512x256) o S1x512x256.size h).toLoadRect (View.loadsAt_vmem h_S1x512x256))
  Prog.lift (.store M (Rect.unit (s := S8x512x256) o S1x512x256.size h) (shapeCast S1x512x256 (truncf .bf16 y bitsLt_bf16_f32) shapeCasts_S512x256_S1x512x256) Finset.univ hs (.inl rfl))

/-- The block of round `t` put in its place and sent to its device. -/
def sendP (c : Dev nD) (t : Fin 7) (dev : Dev nD) (y : FVec F S512x256 .f32) : KProg F PUnit := do
  putP sendV (k0_off2 c (BitVec.ofNat 32 t.val)) (k0_off2_inb c t) y (View.stores_vmem h_S1x512x256 ((Memref.isWhole_whole _).storeExact_slice rfl _ (k0_off2_packedbf16 c t)) (fun _ => rfl))
  Prog.lift (.enqueueDma (blkAt sendV (k0_off6 c (BitVec.ofNat 32 t.val)) (k0_off6_inb c t))
    (.remote (Dev.tc dev) (blkAt recvV (k0_off5 c) (k0_off5_inb c)) (.dma (semAt cc0_scratch14 (k0_off3 c (BitVec.ofNat 32 t.val)) (k0_off3_inb c t))))
    (.dma (semAt cc0_scratch15 (k0_off4 c) (k0_off4_inb c)))
    (((Memref.isWhole_whole _).wordExact_slice rfl _ (k0_off6_wordsbf16 c t)).reshape _ _) (((Memref.isWhole_whole _).wordExact_slice rfl _ (k0_off5_wordsbf16 c)).reshape _ _)
    ⟨⟨rfl, Or.inl rfl⟩, trivial⟩)

/-- The device's own row of maxima sent to `dev`, the send completing on send semaphore `o`. -/
def sendMaxP (c : Dev nD) (o : Fin 1 → ℕ) (h : ∀ i, o i + S1.size i ≤ S8.size i) (dev : Dev nD) : KProg F PUnit :=
  Prog.lift (.enqueueDma (rowAt (k0_off9 c) (k0_off9_inb c)) (.remote (Dev.tc dev) (rowAt (k0_off9 c) (k0_off9_inb c)) (.dma (semAt cc0_scratch16 o h)))
    (.dma (semAt cc0_scratch17 (k0_off4 c) (k0_off4_inb c))) ((View.wordExact_bits rfl).reshape _ _) ((View.wordExact_bits rfl).reshape _ _) ⟨⟨rfl, Or.inl rfl⟩, trivial⟩)

/-- Wait for the `t`-th row of maxima. -/
def recvMaxP (c : Dev nD) (t : Fin 7) : KProg F PUnit :=
  Prog.lift (.waitDma2 (semAt cc0_scratch17 (k0_off10 c (BitVec.ofNat 32 (1 + t.val))) (k0_off10_inb c t))
    (rowAt (k0_off11 c (BitVec.ofNat 32 (1 + t.val))) (k0_off11_inb c t)) (rowAt (k0_off11 c (BitVec.ofNat 32 (1 + t.val))) (k0_off11_inb c t))
    ((View.wordExact_bits rfl).reshape _ _) ((View.wordExact_bits rfl).reshape _ _))

/-- A block of the output computed and stored. -/
def emitP (oi : Fin 3 → ℕ) (hi : ∀ i, oi i + S1x512x256.size i ≤ S8x512x256.size i)
    (oo : Fin 2 → ℕ) (ho : ∀ i, oo i + S512x256.size i ≤ S4096x256.size i) (out : Memref sig .tc .vmem S4096x256 .bf16)
    (hs : (out.access (Rect.unit (s := S4096x256) oo S512x256.size ho)).Stores Finset.univ) (r s : F .f32) : KProg F PUnit := do
  let y ← Prog.lift (.load recvV (Rect.unit (s := S8x512x256) oi S1x512x256.size hi).toLoadRect (View.loadsAt_vmem h_S1x512x256))
  let _ ← Prog.lift (.load out (Rect.unit (s := S4096x256) oo S512x256.size ho).toLoadRect (View.loadsAt_vmem h_S512x256))
  Prog.lift (.store out (Rect.unit (s := S4096x256) oo S512x256.size ho) (quantBlk r s (shapeCast S512x256 y shapeCasts_S1x512x256_S512x256)) Finset.univ hs (.inl rfl))

/-- Wait for the `t`-th block that comes in. -/
def recvP (c : Dev nD) (t : Fin 7) : KProg F PUnit :=
  Prog.lift (.waitDma2 (semAt cc0_scratch15 (k0_off12 c (BitVec.ofNat 32 t.val)) (k0_off12_inb c t))
    (blkAt recvV (k0_off13 c (BitVec.ofNat 32 t.val)) (k0_off13_inb c t)) (blkAt recvV (k0_off13 c (BitVec.ofNat 32 t.val)) (k0_off13_inb c t))
    (((Memref.isWhole_whole _).wordExact_slice rfl _ (k0_off13_wordsbf16 c t)).reshape _ _) (((Memref.isWhole_whole _).wordExact_slice rfl _ (k0_off13_wordsbf16 c t)).reshape _ _))

/-- Wait for the `t`-th block and turn it into output. -/
def outP (c : Dev nD) (t : Fin 7) (r s : F .f32) : KProg F PUnit := do
  recvP c t
  emitP (k0_off14 c (BitVec.ofNat 32 t.val)) (k0_off14_inb c t) (k0_off15 c (BitVec.ofNat 32 t.val)) (k0_off15_inb c t) outV
    (View.stores_vmem h_S512x256 ((hstage0_0 0).storeExact_slice rfl _ (k0_off15_packedbf16 c t)) (fun _ => rfl)) r s

/-- Wait for the departure of the block of round `t`. -/
def sentP (c : Dev nD) (t : Fin 7) : KProg F PUnit :=
  Prog.lift (.waitDma2 (semAt cc0_scratch14 (k0_off3 c (BitVec.ofNat 32 t.val)) (k0_off3_inb c t))
    (blkAt recvV (k0_off5 c) (k0_off5_inb c)) (blkAt sendV (k0_off6 c (BitVec.ofNat 32 t.val)) (k0_off6_inb c t))
    (((Memref.isWhole_whole _).wordExact_slice rfl _ (k0_off5_wordsbf16 c)).reshape _ _) (((Memref.isWhole_whole _).wordExact_slice rfl _ (k0_off6_wordsbf16 c t)).reshape _ _))

/-- Wait for the departure of a row of maxima on send semaphore `o`. -/
def sentMaxP (c : Dev nD) (o : Fin 1 → ℕ) (h : ∀ i, o i + S1.size i ≤ S8.size i) : KProg F PUnit :=
  Prog.lift (.waitDma2 (semAt cc0_scratch16 o h) (rowAt (k0_off9 c) (k0_off9_inb c)) (rowAt (k0_off9 c) (k0_off9_inb c))
    ((View.wordExact_bits rfl).reshape _ _) ((View.wordExact_bits rfl).reshape _ _))

/-! ## The phases -/

/-- Every device tells every other that its buffers are free, and waits to be told by all. -/
def barrierP (c : Dev nD) : KProg F PUnit := do
  semSignalWord (⟨k0_dev1 c, k0_dev1_lt c⟩ : Dev nD) barA.sem 1#32
  semSignalWord (⟨k0_dev2 c, k0_dev2_lt c⟩ : Dev nD) barA.sem 1#32
  semSignalWord (⟨k0_dev3 c, k0_dev3_lt c⟩ : Dev nD) barA.sem 1#32
  semSignalWord (⟨k0_dev4 c, k0_dev4_lt c⟩ : Dev nD) barA.sem 1#32
  semSignalWord (⟨k0_dev5 c, k0_dev5_lt c⟩ : Dev nD) barA.sem 1#32
  semSignalWord (⟨k0_dev6 c, k0_dev6_lt c⟩ : Dev nD) barA.sem 1#32
  semSignalWord (⟨k0_dev7 c, k0_dev7_lt c⟩ : Dev nD) barA.sem 1#32
  semWaitWord barA.sem 7#32

/-- The device's rows fetched, the first three chunks of the weights started, the rows rounded to bf16. -/
def loadP (c : Dev nD) : KProg F PUnit := do
  Prog.lift (.enqueueDma xH (.here xV) (.dma cc0_scratch9.sem) (Memref.isWhole_whole _).wordExact (Memref.isWhole_whole _).wordExact ⟨Or.inl rfl, trivial⟩)
  fetchP c 0 wb0 cc0_scratch10.sem (Memref.isWhole_whole _).wordExact
  fetchP c 1 wb1 cc0_scratch11.sem (Memref.isWhole_whole _).wordExact
  fetchP c 2 wb2 cc0_scratch12.sem (Memref.isWhole_whole _).wordExact
  Prog.lift (.waitDma2 cc0_scratch9.sem xH xV (Memref.isWhole_whole _).wordExact (Memref.isWhole_whole _).wordExact)
  let x ← Prog.lift (.load xV (Rect.unit (s := S512x4096) ![0, 0] S512x4096.size inb_S512x4096_S512x4096_0_0).toLoadRect (View.loadsAt_vmem h_S512x4096))
  let _ ← Prog.lift (.load xbV (Rect.unit (s := S512x4096) ![0, 0] S512x4096.size inb_S512x4096_S512x4096_0_0).toLoadRect (View.loadsAt_vmem h_S512x4096))
  Prog.lift (.store xbV (Rect.unit (s := S512x4096) ![0, 0] S512x4096.size inb_S512x4096_S512x4096_0_0) (shapeCast S512x4096 (truncf .bf16 x bitsLt_bf16_f32) shapeCasts_S512x4096_S512x4096) Finset.univ
    (View.stores_vmem h_S512x4096 ((Memref.isWhole_whole _).storeExact_slice rfl _ packedbf16_S512x4096_S512x4096_0_0) (fun _ => rfl)) (.inl rfl))

/-- A round of the product loop that also starts the fetch of a later chunk. -/
def roundP (c : Dev nD) (t : Fin 7) (t' : Fin 8) (wb : Memref sig .tc .vmem S4096x256 .f32) (ws : DmaSem sig) (h : wb.view.WordExact)
    (wb' : Memref sig .tc .vmem S4096x256 .f32) (ws' : DmaSem sig) (h' : wb'.view.WordExact) (dev : Dev nD) (a : F .f32) : KProg F (F .f32) := do
  fetchP c t' wb' ws' h'
  let y ← prodP c t.castSucc wb ws h
  sendP c t dev y
  pure (Scalar.maximumf a (blkMax y))

/-- A round of the product loop with nothing left to fetch. -/
def lateP (c : Dev nD) (t : Fin 7) (wb : Memref sig .tc .vmem S4096x256 .f32) (ws : DmaSem sig) (h : wb.view.WordExact) (dev : Dev nD) (a : F .f32) : KProg F (F .f32) := do
  let y ← prodP c t.castSucc wb ws h
  sendP c t dev y
  pure (Scalar.maximumf a (blkMax y))

/-- The rounds whose blocks go to other devices. -/
def roundsP (c : Dev nD) : KProg F (F .f32) := do
  let a ← roundP c 0 3 wb0 cc0_scratch10.sem (Memref.isWhole_whole _).wordExact wb3 cc0_scratch13.sem (Memref.isWhole_whole _).wordExact ⟨k0_dev8 c, k0_dev8_lt c⟩ (Scalar.ofBits .f32 0x00000000#32)
  let a ← roundP c 1 4 wb1 cc0_scratch11.sem (Memref.isWhole_whole _).wordExact wb0 cc0_scratch10.sem (Memref.isWhole_whole _).wordExact ⟨k0_dev9 c, k0_dev9_lt c⟩ a
  let a ← roundP c 2 5 wb2 cc0_scratch12.sem (Memref.isWhole_whole _).wordExact wb1 cc0_scratch11.sem (Memref.isWhole_whole _).wordExact ⟨k0_dev10 c, k0_dev10_lt c⟩ a
  let a ← roundP c 3 6 wb3 cc0_scratch13.sem (Memref.isWhole_whole _).wordExact wb2 cc0_scratch12.sem (Memref.isWhole_whole _).wordExact ⟨k0_dev11 c, k0_dev11_lt c⟩ a
  let a ← roundP c 4 7 wb0 cc0_scratch10.sem (Memref.isWhole_whole _).wordExact wb3 cc0_scratch13.sem (Memref.isWhole_whole _).wordExact ⟨k0_dev12 c, k0_dev12_lt c⟩ a
  let a ← lateP c 5 wb1 cc0_scratch11.sem (Memref.isWhole_whole _).wordExact ⟨k0_dev13 c, k0_dev13_lt c⟩ a
  lateP c 6 wb2 cc0_scratch12.sem (Memref.isWhole_whole _).wordExact ⟨k0_dev14 c, k0_dev14_lt c⟩ a

/-- The last round: the device's own block, which stays, and its row of maxima. -/
def ownP (c : Dev nD) (a : F .f32) : KProg F PUnit := do
  let y ← prodP c 7 wb3 cc0_scratch13.sem (Memref.isWhole_whole _).wordExact
  putP recvV (k0_off7 c) (k0_off7_inb c) y (View.stores_vmem h_S1x512x256 ((Memref.isWhole_whole _).storeExact_slice rfl _ (k0_off7_packedbf16 c)) (fun _ => rfl))
  let _ ← Prog.lift (.load amaxV (Rect.unit (s := S8x128) (k0_off8 c) S1x128.size (k0_off8_inb c)).toLoadRect (View.loadsAt_vmem h_S1x128))
  Prog.lift (.store amaxV (Rect.unit (s := S8x128) (k0_off8 c) S1x128.size (k0_off8_inb c)) (shapeCast S1x128 (broadcast S128 (Scalar.maximumf a (blkMax y))) shapeCasts_S128_S1x128) Finset.univ
    (View.stores_vmem_bits_univ h_S1x128 rfl) (.inl rfl))

/-- The row of maxima sent to the seven others. -/
def castP (c : Dev nD) : KProg F PUnit := do
  sendMaxP c ![0] inb_S8_S1_0 ⟨k0_dev15 c, k0_dev15_lt c⟩
  sendMaxP c ![1] inb_S8_S1_1 ⟨k0_dev16 c, k0_dev16_lt c⟩
  sendMaxP c ![2] inb_S8_S1_2 ⟨k0_dev17 c, k0_dev17_lt c⟩
  sendMaxP c ![3] inb_S8_S1_3 ⟨k0_dev18 c, k0_dev18_lt c⟩
  sendMaxP c ![4] inb_S8_S1_4 ⟨k0_dev19 c, k0_dev19_lt c⟩
  sendMaxP c ![5] inb_S8_S1_5 ⟨k0_dev20 c, k0_dev20_lt c⟩
  sendMaxP c ![6] inb_S8_S1_6 ⟨k0_dev21 c, k0_dev21_lt c⟩

/-- The seven other rows awaited, the table read, its largest entry found. -/
def gatherP (c : Dev nD) : KProg F (F .f32) := do
  recvMaxP c 0
  recvMaxP c 1
  recvMaxP c 2
  recvMaxP c 3
  recvMaxP c 4
  recvMaxP c 5
  recvMaxP c 6
  let a ← Prog.lift (.load amaxV (Rect.unit (s := S8x128) ![0, 0] S8x128.size inb_S8x128_S8x128_0_0).toLoadRect (View.loadsAt_vmem h_S8x128))
  pure (tabMax a)

/-- The eight blocks of the output. -/
def blocksP (c : Dev nD) (r s : F .f32) : KProg F PUnit := do
  outP c 0 r s
  outP c 1 r s
  outP c 2 r s
  outP c 3 r s
  outP c 4 r s
  outP c 5 r s
  outP c 6 r s
  emitP (k0_off7 c) (k0_off7_inb c) (k0_off16 c) (k0_off16_inb c) outV
    (View.stores_vmem h_S512x256 ((hstage0_0 0).storeExact_slice rfl _ (k0_off16_packedbf16 c)) (fun _ => rfl)) r s

/-- The departures awaited. -/
def drainP (c : Dev nD) : KProg F PUnit := do
  sentP c 0
  sentP c 1
  sentP c 2
  sentP c 3
  sentP c 4
  sentP c 5
  sentP c 6
  sentMaxP c ![0] inb_S8_S1_0
  sentMaxP c ![1] inb_S8_S1_1
  sentMaxP c ![2] inb_S8_S1_2
  sentMaxP c ![3] inb_S8_S1_3
  sentMaxP c ![4] inb_S8_S1_4
  sentMaxP c ![5] inb_S8_S1_5
  sentMaxP c ![6] inb_S8_S1_6

/-- The body on device `c`. -/
def bodyP (c : Dev nD) : KProg F PUnit := do
  barrierP c
  loadP c
  let a ← roundsP c
  ownP c a
  castP c
  let g ← gatherP c
  blocksP c (Scalar.divf (Scalar.ofBits .f32 0x43E00000#32) g) (Scalar.divf g (Scalar.ofBits .f32 0x43E00000#32))
  drainP c

set_option maxRecDepth 100000 in
set_option maxHeartbeats 4000000 in
/-- The printed body is the device's number read, then that sequence. -/
theorem body_shape (t : Fin cfg0.N) : bodyAt0 (F := F) t = (Prog.lift .deviceId >>= fun c => bodyP c) := by
  obtain rfl := fin_N0 t
  rfl

end Cert.KernelIdeal.A2A

end
-- ==== Proof.Values.lean ====
/- What the kernel's buffers hold, as functions of the memory at launch, for any float values.

   Device `s` computes the block of the activations that belongs to device `j` from its own rows of `x` and the `j`-th
   chunk of the weights' columns, keeps the running maximum over its blocks, and rounds each block to bf16. Every device
   ends with the table of the eight maxima; device `j` ends with the blocks that belong to it, one from each device. -/
module

public import proofs.«01_k».proof.Proof.Shape

@[expose] public section

noncomputable section

namespace Cert.KernelIdeal.A2A

open Idealize.ShloMosaic Idealize.ShloMosaic.TcCoe
open Idealize.SL.Sem
open Cert.KernelIdeal.Gen

variable {F : FTy → Type} [FloatOps F]

/-- The memory of every device. -/
abbrev Mem0 (F : FTy → Type) : Type := (ℓ : Loc nD τ sig) → Buf (Elt F) ℓ

/-! ## Devices around the ring -/

set_option backward.proofsInPublic true in
/-- The device `k` places after `c`. -/
def pr (c : Dev nD) (k : ℕ) : Dev nD := ⟨(c.val + k) % 8, Nat.mod_lt _ (by decide)⟩

/-- The device that the `t`-th send addresses. -/
abbrev up (c : Dev nD) (t : Fin 7) : Dev nD := pr c (t.val + 1)
/-- The device that the `t`-th block comes from. -/
abbrev dn (c : Dev nD) (t : Fin 7) : Dev nD := pr c (7 - t.val)

/-! ## Blocks in closed form -/

theorem blk_inb (j : Dev nD) : ∀ i, (![j.val, 0, 0] : Fin 3 → ℕ) i + S1x512x256.size i ≤ S8x512x256.size i := by revert j; decide
theorem row_inb (j : Dev nD) : ∀ i, (![j.val, 0] : Fin 2 → ℕ) i + S1x128.size i ≤ S8x128.size i := by revert j; decide
theorem col_inb (j : Dev nD) : ∀ i, (![0, 256 * j.val] : Fin 2 → ℕ) i + S4096x256.size i ≤ S4096x2048.size i := by revert j; decide
theorem out_inb (j : Dev nD) : ∀ i, (![512 * j.val, 0] : Fin 2 → ℕ) i + S512x256.size i ≤ S4096x256.size i := by revert j; decide

/-- Block `j` of the outgoing blocks, of the incoming ones; row `j` of the maxima. -/
abbrev sRow (j : Dev nD) : Memref sig .tc .vmem S512x256 .bf16 := blkAt sendV ![j.val, 0, 0] (blk_inb j)
abbrev rRow (j : Dev nD) : Memref sig .tc .vmem S512x256 .bf16 := blkAt recvV ![j.val, 0, 0] (blk_inb j)
abbrev aRow (j : Dev nD) : Memref sig .tc .vmem S128 .f32 := rowAt ![j.val, 0] (row_inb j)
/-- The `j`-th chunk of the weights' columns. -/
abbrev wCol (j : Dev nD) : Memref sig .tc .hbm S4096x256 .f32 :=
  wH.slice (Rect.unit (s := S4096x2048) ![0, 256 * j.val] S4096x256.size (col_inb j)) (fun _ => rfl)
/-- The rectangle of block `j` of the output. -/
abbrev oRect (j : Dev nD) : Rect S4096x256 := Rect.unit (s := S4096x256) ![512 * j.val, 0] S512x256.size (out_inb j)

/-! ## Contents -/

variable (m : Mem0 F)

/-- Device `s`'s rows of `x`, and the same in bf16. -/
def xAt (s : Dev nD) : Vec F S512x4096 .f32 := xH.view.read (Elt F) (m ((s : Thread nD τ).loc main_arg0))
def xbAt (s : Dev nD) : Vec F S512x4096 .bf16 := truncf .bf16 (xAt m s : FVec F S512x4096 .f32) bitsLt_bf16_f32
/-- The `j`-th chunk of device `s`'s copy of the weights. -/
def wAt (s j : Dev nD) : Vec F S4096x256 .f32 := (wCol j).view.read (Elt F) (m ((s : Thread nD τ).loc main_arg1))
/-- Device `s`'s block for device `j`, and the same in bf16. -/
def yAt (s j : Dev nD) : FVec F S512x256 .f32 := reluBlk (xbAt m s) (wAt m s j)
def ybAt (s j : Dev nD) : FVec F S512x256 .bf16 := truncf .bf16 (yAt m s j) bitsLt_bf16_f32
/-- The maximum over device `s`'s first `n` blocks, in the order that they are computed. -/
def maxUpto (s : Dev nD) : ℕ → F .f32
  | 0 => Scalar.ofBits .f32 0x00000000#32
  | n + 1 => Scalar.maximumf (maxUpto s n) (blkMax (yAt m s (pr s (n + 1))))
/-- Device `s`'s maximum. -/
def maxAt (s : Dev nD) : F .f32 := maxUpto m s 8
/-- The table of maxima, a row a device. -/
def tab : Vec F S8x128 .f32 := fun i => maxAt m (i 0)
/-- The maximum over all devices. -/
def gmax : F .f32 := tabMax (tab m)
/-- Device `c`'s block of the output that comes from device `s`. -/
def outBlk (c s : Dev nD) : FVec F S512x256 .bf16 :=
  quantBlk (Scalar.divf (Scalar.ofBits .f32 0x43E00000#32) (gmax m)) (Scalar.divf (gmax m) (Scalar.ofBits .f32 0x43E00000#32)) (ybAt m s c)

set_option backward.proofsInPublic true in
/-- The device that a row of the output comes from, and the row's place in that device's block. -/
def rowDev (i : Fin 4096) : Dev nD := ⟨i.val / 512, by have := i.isLt; show _ < 8; omega⟩
set_option backward.proofsInPublic true in
def rowIn (i : Fin 4096) : Fin 512 := ⟨i.val % 512, Nat.mod_lt _ (by decide)⟩
/-- Device `c`'s output. -/
def outAt (c : Dev nD) : Vec F S4096x256 .bf16 := fun i => outBlk m c (rowDev (i 0)) (fun a => match a with | ⟨0, _⟩ => rowIn (i 0) | ⟨1, _⟩ => i 1)

end Cert.KernelIdeal.A2A

end
-- ==== Proof.Proto.lean ====
/- The protocol: what each semaphore's rounds are, who pays them, and what they hand over.

   * barrier of device `p`: one round, paid by the seven others, a unit each; the payment of `c` hands over block `p` of
     `c`'s incoming blocks and row `p` of `c`'s table of maxima, so that `p` may write them.
   * the fetches: one round for `x`, two for each of the four weight buffers; a round hands back the source and the
     buffer at the chunk.
   * arrival `s` on device `c`: one round, paid by `s`; it hands over block `s` (row `s`) at what `s` computed.
   * departure `j` on device `c`: one round, paid by `c`'s own send; it hands the source back. The seven sends of the row
     of maxima read it at the same time, each at a share of its own.
   Levels: barrier 1, arrivals 2, everything else 0. -/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The semaphores by what they are for: barrier and fetch of `x`; the weight buffers; departures and arrivals of blocks;
    departures and arrivals of rows of maxima. -/
abbrev Role : Type := Bool ⊕ Fin 4 ⊕ Dev nD ⊕ Dev nD ⊕ Dev nD ⊕ Dev nD

abbrev rBar : Role := .inl false
abbrev rX : Role := .inl true
abbrev rW (k : Fin 4) : Role := .inr (.inl k)
abbrev rDS (j : Dev nD) : Role := .inr (.inr (.inl j))
abbrev rDR (j : Dev nD) : Role := .inr (.inr (.inr (.inl j)))
abbrev rAS (j : Dev nD) : Role := .inr (.inr (.inr (.inr (.inl j))))
abbrev rAR (j : Dev nD) : Role := .inr (.inr (.inr (.inr (.inr j))))

set_option backward.proofsInPublic true in
/-- Semaphore number `k + j` among the DMA semaphores. -/
def dsem (k : ℕ) (hk : k + 8 ≤ 38) (j : Fin 8) : DmaSem sig := ⟨k + j.val, by have := j.isLt; show _ < 38; omega⟩

set_option backward.proofsInPublic true in
/-- A role's semaphore. -/
def csem : Role → SemLoc sig
  | .inl false => .reg barA.sem
  | .inl true => .dma (dsem 1 (by decide) 0)
  | .inr (.inl k) => .dma (dsem 2 (by decide) ⟨k.val, by omega⟩)
  | .inr (.inr (.inl j)) => .dma (dsem 6 (by decide) j)
  | .inr (.inr (.inr (.inl j))) => .dma (dsem 14 (by decide) j)
  | .inr (.inr (.inr (.inr (.inl j)))) => .dma (dsem 22 (by decide) j)
  | .inr (.inr (.inr (.inr (.inr j)))) => .dma (dsem 30 (by decide) j)

theorem csem_injective : Function.Injective csem := by decide

set_option backward.proofsInPublic true in
/-- The role of a semaphore. -/
def roleOf (s : SemLoc sig) : Option Role := match s with
  | .reg r => if r = barA.sem then some rBar else none
  | .dma q =>
    if q.val < 1 then none else if q.val < 2 then some rX else if q.val < 6 then some (rW ⟨(q.val - 2) % 4, Nat.mod_lt _ (by decide)⟩)
    else if q.val < 14 then some (rDS ⟨(q.val - 6) % 8, Nat.mod_lt _ (by decide)⟩) else if q.val < 22 then some (rDR ⟨(q.val - 14) % 8, Nat.mod_lt _ (by decide)⟩)
    else if q.val < 30 then some (rAS ⟨(q.val - 22) % 8, Nat.mod_lt _ (by decide)⟩) else some (rAR ⟨(q.val - 30) % 8, Nat.mod_lt _ (by decide)⟩)

theorem roleOf_csem (r : Role) : roleOf (csem r) = some r := by
  rcases r with b | k | j | j | j | j
  · cases b <;> rfl
  · fin_cases k <;> rfl
  · fin_cases j <;> rfl
  · fin_cases j <;> rfl
  · fin_cases j <;> rfl
  · fin_cases j <;> rfl

/-- Role `r`'s cell on device `c`. -/
abbrev cell (c : Dev nD) (r : Role) : GSem nD τ sig := ((c : Thread nD τ), csem r)

theorem cell_inj {c c' : Dev nD} {r r' : Role} (h : cell c r = cell c' r') : c = c' ∧ r = r' :=
  ⟨congrArg (fun g : GSem nD τ sig => g.1.1) h, csem_injective (congrArg Prod.snd h)⟩

/-! ## What the transfers credit -/

@[irreducible] def NX : ℕ := xV.view.dmaCredit
@[irreducible] def NW : ℕ := wb0.view.dmaCredit
@[irreducible] def NB : ℕ := (rRow 0).view.dmaCredit
@[irreducible] def NA : ℕ := (aRow 0).view.dmaCredit

theorem NX_pos : 0 < NX := by unfold NX; exact View.dmaCredit_pos _ (by decide)
theorem NW_pos : 0 < NW := by unfold NW; exact View.dmaCredit_pos _ (by decide)
theorem NB_pos : 0 < NB := by unfold NB; exact View.dmaCredit_pos _ (by decide)
theorem NA_pos : 0 < NA := by unfold NA; exact View.dmaCredit_pos _ (by decide)

/-! ## What is handed over -/

variable (m : Mem0 F)

/-- The memref's elements on device `c` at contents `f`. -/
def pts {sp : Space} {s : Shape} {e : EltTy} (c : Dev nD) (M : Memref sig .tc sp s e) (q : PosShare TreeShare) (f : Buf (Elt F) (M.view.loc (c : Thread nD τ))) : sProp 𝕄 :=
  M.view.loc (c : Thread nD τ) ↦[M.view.set]{q} f
/-- The memref's elements on device `c` at some contents. -/
def some_ {sp : Space} {s : Shape} {e : EltTy} (c : Dev nD) (M : Memref sig .tc sp s e) : sProp 𝕄 := iprop(∃ f, pts c M fullShare f)
/-- The memref's elements on device `c` at contents that read `v`. -/
def holds {sp : Space} {s : Shape} {e : EltTy} (c : Dev nD) (M : Memref sig .tc sp s e) (v : s.Idx → Elt F e) : sProp 𝕄 :=
  iprop(∃ f, ⌜M.view.read (Elt F) f = v⌝ ∗ pts c M fullShare f)

omit [FloatOps F] in
instance pts_storable {sp : Space} {s : Shape} {e : EltTy} (c : Dev nD) (M : Memref sig .tc sp s e) (q : PosShare TreeShare) (f : Buf (Elt F) (M.view.loc (c : Thread nD τ))) :
    BI.Storable (upEmb : UEmb _ 𝕄) (pts c M q f) := by unfold pts; infer_instance
omit [FloatOps F] in
instance some_storable {sp : Space} {s : Shape} {e : EltTy} (c : Dev nD) (M : Memref sig .tc sp s e) : BI.Storable (upEmb : UEmb _ 𝕄) (some_ (F := F) c M) := by
  unfold some_; infer_instance
omit [FloatOps F] in
instance holds_storable {sp : Space} {s : Shape} {e : EltTy} (c : Dev nD) (M : Memref sig .tc sp s e) (v : s.Idx → Elt F e) :
    BI.Storable (upEmb : UEmb _ 𝕄) (holds c M v) := by unfold holds; infer_instance

/-- The four weight buffers. -/
abbrev wbuf : Fin 4 → Memref sig .tc .vmem S4096x256 .f32 := fun | 0 => wb0 | 1 => wb1 | 2 => wb2 | 3 => wb3

/-- The share of its own row of maxima that device `c`'s `i`-th send reads. -/
abbrev tokShare (i : Fin 7) : PosShare TreeShare := Transfers.shareTok fullShare 7 i

/-- The chunk that round `r` of weight buffer `k` on device `c` fetches. -/
abbrev wDev (c : Dev nD) (k : Fin 4) (r : ℕ) : Dev nD := pr c (4 * r + k.val + 1)

set_option backward.proofsInPublic true in
def pay (c : Dev nD) : Option Role → ℕ → Dev nD → sProp 𝕄
  | some (.inl false), _, d => iprop(some_ d (rRow c) ∗ some_ d (aRow c))
  | some (.inl true), _, _ => iprop(holds c xV (xAt m c) ∗ pts c xH fullShare (m ((c : Thread nD τ).loc main_arg0)))
  | some (.inr (.inl k)), r, _ => iprop(holds c (wbuf k) (wAt m c (wDev c k r)) ∗ pts c (wCol (wDev c k r)) fullShare (m ((c : Thread nD τ).loc main_arg1)))
  | some (.inr (.inr (.inl j))), _, _ => some_ c (sRow j)
  | some (.inr (.inr (.inr (.inl s)))), _, _ => holds c (rRow s) (ybAt m s c)
  | some (.inr (.inr (.inr (.inr (.inl j))))), _, _ => if h : j.val < 7 then pts c (aRow c) (tokShare ⟨j.val, h⟩) (tab m) else iprop(emp)
  | some (.inr (.inr (.inr (.inr (.inr s))))), _, _ => pts c (aRow s) fullShare (tab m)
  | none, _, _ => iprop(emp)

def dutyOf (c : Dev nD) : Option Role → ℕ → Finset (Dev nD)
  | some (.inl false), r => if r = 0 then Finset.univ.erase c else ∅
  | some (.inl true), r => if r = 0 then {0} else ∅
  | some (.inr (.inl _)), r => if r < 2 then {0} else ∅
  | some (.inr (.inr (.inl j))), r => if r = 0 ∧ j ≠ c then {0} else ∅
  | some (.inr (.inr (.inr (.inl s)))), r => if r = 0 ∧ s ≠ c then {0} else ∅
  | some (.inr (.inr (.inr (.inr (.inl j))))), r => if r = 0 ∧ j.val < 7 then {0} else ∅
  | some (.inr (.inr (.inr (.inr (.inr s))))), r => if r = 0 ∧ s ≠ c then {0} else ∅
  | none, _ => ∅

def amt : Option Role → ℕ
  | some (.inl false) => 1
  | some (.inl true) => NX
  | some (.inr (.inl _)) => NW
  | some (.inr (.inr (.inl _))) => NB
  | some (.inr (.inr (.inr (.inl _)))) => NB
  | some (.inr (.inr (.inr (.inr (.inl _))))) => NA
  | some (.inr (.inr (.inr (.inr (.inr _))))) => NA
  | none => 1

theorem amt_pos (o : Option Role) : 0 < amt o := by
  rcases o with _ | ((_ | _) | _ | _ | _ | _ | _)
  · exact Nat.one_pos
  · exact Nat.one_pos
  · exact NX_pos
  · exact NW_pos
  · exact NB_pos
  · exact NB_pos
  · exact NA_pos
  · exact NA_pos

instance pay_storable (c : Dev nD) (o : Option Role) (r : ℕ) (d : Dev nD) : BI.Storable (upEmb : UEmb _ 𝕄) (pay m c o r d) := by
  rcases o with _ | ((_ | _) | _ | _ | _ | _ | _) <;> (unfold pay; dsimp only; (repeat' split) <;> infer_instance)

def rd : Rounds.Schedule (GSem nD τ sig) (Dev nD) 𝕄 where
  duties g r := dutyOf g.1.1 (roleOf g.2) r
  unitless _ := False
  amount g _ _ := amt (roleOf g.2)
  payload g r d := pay m g.1.1 (roleOf g.2) r d
  amount_pos _ _ _ _ := amt_pos _

instance rd_payload_storable (g : GSem nD τ sig) (r : ℕ) (d : Dev nD) : BI.Storable (upEmb : UEmb _ 𝕄) ((rd (F := F) m).payload g r d) :=
  pay_storable m _ _ _ _

theorem rd_duties (c : Dev nD) (ro : Role) (r : ℕ) : (rd (F := F) m).duties (cell c ro) r = dutyOf c (some ro) r := by
  show dutyOf c (roleOf (csem ro)) r = _; rw [roleOf_csem]
theorem rd_amount (c : Dev nD) (ro : Role) (r : ℕ) (d : Dev nD) : (rd (F := F) m).amount (cell c ro) r d = amt (some ro) := by
  show amt (roleOf (csem ro)) = _; rw [roleOf_csem]
theorem rd_payload (c : Dev nD) (ro : Role) (r : ℕ) (d : Dev nD) : (rd (F := F) m).payload (cell c ro) r d = pay m c (some ro) r d := by
  show pay m c (roleOf (csem ro)) r d = _; rw [roleOf_csem]

/-- What a round of a cell expects: its duties' number times the cell's amount. -/
theorem rd_expect (c : Dev nD) (ro : Role) (r : ℕ) : (rd (F := F) m).expect (cell c ro) r = (dutyOf c (some ro) r).card * amt (some ro) := by
  unfold Schedule.expect Schedule.amountOf
  rw [rd_duties, Finset.sum_congr rfl fun d _ => rd_amount m c ro r d, Finset.sum_const, smul_eq_mul]
/-- What a whole round hands over. -/
theorem rd_rest (c : Dev nD) (ro : Role) (r : ℕ) :
    bigSep ((rd (F := F) m).duties (cell c ro) r \ ∅) (fun d => (rd (F := F) m).payload (cell c ro) r d) = bigSep (dutyOf c (some ro) r) (fun d => pay m c (some ro) r d) := by
  rw [Finset.sdiff_empty, rd_duties]; exact bigSep_congr fun d _ => rd_payload m c ro r d

/-- The number of rounds of a role's cell on device `c`. -/
def rounds (c : Dev nD) : Role → ℕ
  | .inl _ => 1
  | .inr (.inl _) => 2
  | .inr (.inr (.inl j)) => if j ≠ c then 1 else 0
  | .inr (.inr (.inr (.inl s))) => if s ≠ c then 1 else 0
  | .inr (.inr (.inr (.inr (.inl j)))) => if j.val < 7 then 1 else 0
  | .inr (.inr (.inr (.inr (.inr s)))) => if s ≠ c then 1 else 0

theorem duties_after (c : Dev nD) (ro : Role) (r : ℕ) (hr : rounds c ro ≤ r) : (rd (F := F) m).duties (cell c ro) r = ∅ := by
  rw [rd_duties]
  rcases ro with (_ | _) | k | j | j | j | j <;> unfold rounds at hr <;> unfold dutyOf <;> dsimp only at hr ⊢ <;> refine if_neg ?_
  · omega
  · omega
  · omega
  · rintro ⟨h, h'⟩; rw [if_pos h'] at hr; omega
  · rintro ⟨h, h'⟩; rw [if_pos h'] at hr; omega
  · rintro ⟨h, h'⟩; rw [if_pos h'] at hr; omega
  · rintro ⟨h, h'⟩; rw [if_pos h'] at hr; omega

/-! ## What each device owes -/

section Owed
variable (c : Dev nD)

/-- The part of a family of seven that starts at `n`. -/
def rest {A : Type} [AddCommMonoid A] (f : Fin 7 → A) (n : ℕ) : A := ∑ t ∈ Finset.univ.filter (fun t : Fin 7 => n ≤ t.val), f t

theorem rest_step {A : Type} [AddCommMonoid A] (f : Fin 7 → A) (t : Fin 7) : rest f t.val = rest f (t.val + 1) + f t := by
  unfold rest
  rw [show Finset.univ.filter (fun u : Fin 7 => t.val ≤ u.val) = insert t (Finset.univ.filter (fun u : Fin 7 => t.val + 1 ≤ u.val)) from by revert t; decide,
    Finset.sum_insert (by simp), add_comm]
theorem rest_end {A : Type} [AddCommMonoid A] (f : Fin 7 → A) : rest f 7 = 0 := by
  unfold rest; rw [show Finset.univ.filter (fun u : Fin 7 => 7 ≤ u.val) = ∅ from by decide, Finset.sum_empty]

/-- The units of the barrier, the blocks, the rows of maxima that device `c` has yet to deliver. -/
def owB (n : ℕ) : CellTallies nD τ sig Unit := rest (fun t => tallyAt (cell (up c t) rBar) () 1) n
def owD (n : ℕ) : CellTallies nD τ sig Unit := rest (fun t => tallyAt (cell (up c t) (rDR c)) () NB) n
def owA (n : ℕ) : CellTallies nD τ sig Unit := rest (fun t => tallyAt (cell (up c t) (rAR c)) () NA) n
def debt (b d a : ℕ) : CellTallies nD τ sig Unit := owA c a + owD c d + owB c b

theorem debt_bar (t : Fin 7) (d a : ℕ) : debt c t.val d a = debt c (t.val + 1) d a + tallyAt (cell (up c t) rBar) () 1 := by
  unfold debt owB; rw [rest_step, add_assoc (owA c a + owD c d)]
theorem debt_blk (b : ℕ) (t : Fin 7) (a : ℕ) : debt c b t.val a = debt c b (t.val + 1) a + tallyAt (cell (up c t) (rDR c)) () NB := by
  unfold debt owD; rw [rest_step]; ac_rfl
theorem debt_row (b d : ℕ) (t : Fin 7) : debt c b d t.val = debt c b d (t.val + 1) + tallyAt (cell (up c t) (rAR c)) () NA := by
  unfold debt owA; rw [rest_step]; ac_rfl
theorem debt_none : debt c 7 7 7 = 0 := by unfold debt owA owD owB; rw [rest_end, rest_end, rest_end, add_zero, add_zero]

/-- A sum of tallies is positive at a cell only if a summand is. -/
theorem rest_pos {f : Fin 7 → CellTallies nD τ sig Unit} {n : ℕ} {g : GSem nD τ sig} {u : Unit} (h : 0 < rest f n g u) : ∃ t, n ≤ t.val ∧ 0 < f t g u := by
  unfold rest at h
  rw [Finset.sum_apply, Finsupp.finset_sum_apply] at h
  obtain ⟨t, ht, hp⟩ := Finset.exists_ne_zero_of_sum_ne_zero (Nat.pos_iff_ne_zero.mp h)
  exact ⟨t, (Finset.mem_filter.mp ht).2, Nat.pos_of_ne_zero hp⟩
theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h
theorem debt_pos {b d a : ℕ} {g : GSem nD τ sig} {u : Unit} (h : 0 < debt c b d a g u) :
    (b < 7 ∧ ∃ p, g = cell p rBar) ∨ (∃ p, g = cell p (rDR c)) ∨ (∃ p, g = cell p (rAR c)) := by
  unfold debt at h
  rw [Pi.add_apply, Finsupp.add_apply, Pi.add_apply, Finsupp.add_apply] at h
  by_cases hB : 0 < owB c b g u
  · obtain ⟨t, hn, ht⟩ := rest_pos hB; exact .inl ⟨by omega, _, tally_pos ht⟩
  by_cases hD : 0 < owD c d g u
  · obtain ⟨t, hn, ht⟩ := rest_pos hD; exact .inr (.inl ⟨_, tally_pos ht⟩)
  by_cases hA : 0 < owA c a g u
  · obtain ⟨t, hn, ht⟩ := rest_pos hA; exact .inr (.inr ⟨_, tally_pos ht⟩)
  omega

end Owed

/-! ## Levels -/

def L (g : GSem nD τ sig) : Finset Unit := if g.1.2 = .tc then {()} else ∅
def levOf : Option Role → ℕ
  | some (.inl false) => 1
  | some (.inr (.inr (.inr (.inl _)))) => 2
  | some (.inr (.inr (.inr (.inr (.inr _))))) => 2
  | _ => 0
def lv (g : GSem nD τ sig) (_ : Unit) : ℕ := levOf (roleOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (r : Role) : lv (cell c r) () = levOf (some r) := by unfold lv; rw [roleOf_csem]

omit [FloatOps F] in
/-- A device may wait on a semaphore of level 0 whatever it owes. -/
theorem mayWait_low (c : Dev nD) (sm : SemLoc sig) (h : levOf (roleOf sm) = 0) (b d a : ℕ) :
    (levAts L lv : sProp 𝕄) ⊢ MayWait (c : Thread nD τ) sm () (debt c b d a) :=
  MayOwe.of_cut (L := L) (lev := lv) 0 (fun p hp => by rw [Finset.mem_singleton.mp hp, L_tc]; exact Finset.mem_singleton_self _)
    (fun g u hg => by rcases debt_pos c hg with ⟨-, p, rfl⟩ | ⟨p, rfl⟩ | ⟨p, rfl⟩ <;> exact Finset.mem_singleton_self _)
    (fun p hp => by rw [Finset.mem_singleton.mp hp]; exact h.le)
    (fun g u hg => by rcases debt_pos c hg with ⟨-, p, rfl⟩ | ⟨p, rfl⟩ | ⟨p, rfl⟩ <;> cases u <;> rw [lv_cell] <;> first | exact Nat.one_pos | exact Nat.two_pos)

omit [FloatOps F] in
/-- A device may wait on its barrier once it has told all the others. -/
theorem mayWait_bar (c : Dev nD) (d a : ℕ) : (levAts L lv : sProp 𝕄) ⊢ MayWait (c : Thread nD τ) (csem rBar) () (debt c 7 d a) :=
  MayOwe.of_cut (L := L) (lev := lv) 1 (fun p hp => by rw [Finset.mem_singleton.mp hp, L_tc]; exact Finset.mem_singleton_self _)
    (fun g u hg => by rcases debt_pos c hg with ⟨-, p, rfl⟩ | ⟨p, rfl⟩ | ⟨p, rfl⟩ <;> exact Finset.mem_singleton_self _)
    (fun p hp => by rw [Finset.mem_singleton.mp hp]; exact (lv_cell c rBar).le)
    (fun g u hg => by rcases debt_pos c hg with ⟨h, -⟩ | ⟨p, rfl⟩ | ⟨p, rfl⟩ <;> [omega; skip; skip] <;> cases u <;> rw [lv_cell] <;> exact Nat.one_lt_two)

end Cert.KernelIdeal.A2A

end
-- ==== Proof.Triple.lean ====
/- Hoare triples for the kernel's steps: the rules that compose them, and one rule for each kind of effect. -/
module

public import proofs.«01_k».proof.Proof.Proto

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

instance : DecidableEq Role := inferInstance
instance : DecidableEq (Dev nD × Role) := instDecidableEqProd

variable (m : Mem0 F) (K : Dev nD × Role → ℕ)

/-! ## What every device knows -/

/-- Every cell's invariant, and that every cell has reached its round 0. -/
def records : sProp 𝕄 :=
  iprop((bigSep Finset.univ fun ck : Dev nD × Role => cellInv ER (rd m) (K ck) (cell ck.1 ck.2))
    ∗ bigSep Finset.univ fun ck : Dev nD × Role => reached ER (cell ck.1 ck.2) 0)
instance records_persistent : BI.Persistent (records m K) := by unfold records; infer_instance

/-- The same with the levels. -/
def ctx : sProp 𝕄 := iprop(records m K ∗ levAts L lv)
instance ctx_persistent : BI.Persistent (ctx m K) := by unfold ctx; infer_instance

theorem ctx_inv (c : Dev nD) (ro : Role) : ctx m K ⊢ cellInv ER (rd m) (K (c, ro)) (cell c ro) := by
  refine BIBase.Entails.trans ?_ (bigSep_elim (Φ := fun ck : Dev nD × Role => (cellInv ER (rd m) (K ck) (cell ck.1 ck.2) : sProp 𝕄)) (Finset.mem_univ (c, ro)))
  unfold ctx records
  iintro ⟨⟨H, -⟩, -⟩
  iexact H
theorem ctx_reached (c : Dev nD) (ro : Role) : ctx m K ⊢ reached ER (cell c ro) 0 := by
  refine BIBase.Entails.trans ?_ (bigSep_elim (Φ := fun ck : Dev nD × Role => (reached ER (cell ck.1 ck.2) 0 : sProp 𝕄)) (Finset.mem_univ (c, ro)))
  unfold ctx records
  iintro ⟨⟨-, H⟩, -⟩
  iexact H
theorem ctx_lev : ctx m K ⊢ (levAts L lv : sProp 𝕄) := by
  unfold ctx; iintro ⟨-, H⟩; iexact H

/-! ## Triples -/

/-- From what every device knows and `P`, device `c` runs `f` to `Q`. -/
def Tri (c : Dev nD) {α : Type} (P : sProp 𝕄) (f : KProg F α) (Q : α → sProp 𝕄) : Prop :=
  iprop(ctx m K ∗ P) ⊢ wp frame (wpE (defs₀ (F := F)) 𝒱₀ (c : Thread nD τ) none) Set.univ f Q

variable {m K} {c : Dev nD} {α β : Type}

theorem Tri.bind {P : sProp 𝕄} {f : KProg F α} {Q : α → sProp 𝕄} {k : α → KProg F β} {R : β → sProp 𝕄}
    (hf : Tri m K c P f Q) (hk : ∀ a, Tri m K c (Q a) (k a) R) : Tri m K c P (f >>= k) R := by
  unfold Tri at *
  rw [wp_bind]
  iintro ⟨#Hc, HP⟩
  iapply (wp_wand frame _ Set.univ (Q := Q)) $$ [HP]
  · iapply hf
    isplitr; · iexact Hc
    iexact HP
  iintro %a HQ
  iapply (hk a)
  isplitr; · iexact Hc
  iexact HQ

theorem Tri.mono {P P' : sProp 𝕄} {f : KProg F α} {Q Q' : α → sProp 𝕄} (hf : Tri m K c P f Q) (hP : P' ⊢ P) (hQ : ∀ a, Q a ⊢ Q' a) : Tri m K c P' f Q' :=
  ((sep_mono_right hP).trans hf).trans (wp_mono frame _ Set.univ hQ)
theorem Tri.pre {P P' : sProp 𝕄} {f : KProg F α} {Q : α → sProp 𝕄} (hP : P' ⊢ P) (hf : Tri m K c P f Q) : Tri m K c P' f Q := hf.mono hP fun _ => .rfl
theorem Tri.post {P : sProp 𝕄} {f : KProg F α} {Q Q' : α → sProp 𝕄} (hf : Tri m K c P f Q) (hQ : ∀ a, Q a ⊢ Q' a) : Tri m K c P f Q' := hf.mono .rfl hQ

theorem Tri.with {P : sProp 𝕄} {f : KProg F α} {Q : α → sProp 𝕄} (hf : Tri m K c P f Q) (R : sProp 𝕄) : Tri m K c iprop(P ∗ R) f (fun a => iprop(Q a ∗ R)) := by
  unfold Tri at *
  iintro ⟨#Hc, HP, HR⟩
  iapply (wp_frame_r frame _ Set.univ)
  isplitl [HP]
  · iapply hf
    isplitr; · iexact Hc
    iexact HP
  iexact HR

theorem Tri.ret {a : α} {Q : α → sProp 𝕄} : Tri m K c (Q a) (pure a) Q := by
  unfold Tri
  iintro ⟨-, H⟩
  iapply (le_wp_ret frame _ Set.univ a Q); iexact H

/-- A fact of the precondition may be used outside. -/
theorem Tri.pure {p : Prop} {P : sProp 𝕄} {f : KProg F α} {Q : α → sProp 𝕄} (h : p → Tri m K c P f Q) : Tri m K c iprop(⌜p⌝ ∗ P) f Q := by
  unfold Tri at *
  iintro ⟨#Hc, %hp, HP⟩
  iapply (h hp)
  isplitr; · iexact Hc
  iexact HP

/-- A name for what exists in the precondition. -/
theorem Tri.exists {X : Type} {P : X → sProp 𝕄} {f : KProg F α} {Q : α → sProp 𝕄} (h : ∀ x, Tri m K c (P x) f Q) : Tri m K c iprop(∃ x, P x) f Q := by
  unfold Tri at *
  iintro ⟨#Hc, %x, HP⟩
  iapply (h x)
  isplitr; · iexact Hc
  iexact HP

/-- Seven steps of one form, each with resources of its own beside a state that they share. -/
theorem Tri.seven {f : Fin 7 → KProg F PUnit} {A : ℕ → sProp 𝕄} {R S : Fin 7 → sProp 𝕄}
    (h : ∀ t : Fin 7, Tri m K c iprop(A t.val ∗ R t) (f t) (fun _ => iprop(A (t.val + 1) ∗ S t))) :
    Tri m K c iprop(A 0 ∗ bigSep Finset.univ R) (do f 0; f 1; f 2; f 3; f 4; f 5; f 6) (fun _ => iprop(A 7 ∗ bigSep Finset.univ S)) := by
  have e : ∀ Φ : Fin 7 → sProp 𝕄, bigSep Finset.univ Φ = iprop(Φ 0 ∗ Φ 1 ∗ Φ 2 ∗ Φ 3 ∗ Φ 4 ∗ Φ 5 ∗ Φ 6) :=
    bigSep_univ_eq_bigSepL [0, 1, 2, 3, 4, 5, 6] (by decide) (by decide)
  rw [e, e]
  have h0 : Tri m K c iprop(A 0 ∗ R 0) (f 0) (fun _ => iprop(A 1 ∗ S 0)) := h 0
  have h1 : Tri m K c iprop(A 1 ∗ R 1) (f 1) (fun _ => iprop(A 2 ∗ S 1)) := h 1
  have h2 : Tri m K c iprop(A 2 ∗ R 2) (f 2) (fun _ => iprop(A 3 ∗ S 2)) := h 2
  have h3 : Tri m K c iprop(A 3 ∗ R 3) (f 3) (fun _ => iprop(A 4 ∗ S 3)) := h 3
  have h4 : Tri m K c iprop(A 4 ∗ R 4) (f 4) (fun _ => iprop(A 5 ∗ S 4)) := h 4
  have h5 : Tri m K c iprop(A 5 ∗ R 5) (f 5) (fun _ => iprop(A 6 ∗ S 5)) := h 5
  have h6 : Tri m K c iprop(A 6 ∗ R 6) (f 6) (fun _ => iprop(A 7 ∗ S 6)) := h 6
  refine Tri.bind ((h0.with iprop(R 1 ∗ R 2 ∗ R 3 ∗ R 4 ∗ R 5 ∗ R 6)).pre sep_assoc.2) fun _ => ?_
  refine Tri.bind ((h1.with iprop(S 0 ∗ R 2 ∗ R 3 ∗ R 4 ∗ R 5 ∗ R 6)).pre (by
      iintro ⟨⟨HA, H0⟩, H1, Hr⟩
      isplitl [HA H1]; · (isplitl [HA]; · iexact HA); iexact H1
      isplitl [H0] <;> iassumption)) fun _ => ?_
  refine Tri.bind ((h2.with iprop(S 0 ∗ S 1 ∗ R 3 ∗ R 4 ∗ R 5 ∗ R 6)).pre (by
      iintro ⟨⟨HA, H1⟩, H0, H2, Hr⟩
      isplitl [HA H2]; · (isplitl [HA]; · iexact HA); iexact H2
      isplitl [H0]; · iassumption
      isplitl [H1] <;> iassumption)) fun _ => ?_
  refine Tri.bind ((h3.with iprop(S 0 ∗ S 1 ∗ S 2 ∗ R 4 ∗ R 5 ∗ R 6)).pre (by
      iintro ⟨⟨HA, H2⟩, H0, H1, H3, Hr⟩
      isplitl [HA H3]; · (isplitl [HA]; · iexact HA); iexact H3
      isplitl [H0]; · iassumption
      isplitl [H1]; · iassumption
      isplitl [H2] <;> iassumption)) fun _ => ?_
  refine Tri.bind ((h4.with iprop(S 0 ∗ S 1 ∗ S 2 ∗ S 3 ∗ R 5 ∗ R 6)).pre (by
      iintro ⟨⟨HA, H3⟩, H0, H1, H2, H4, Hr⟩
      isplitl [HA H4]; · (isplitl [HA]; · iexact HA); iexact H4
      isplitl [H0]; · iassumption
      isplitl [H1]; · iassumption
      isplitl [H2]; · iassumption
      isplitl [H3] <;> iassumption)) fun _ => ?_
  refine Tri.bind ((h5.with iprop(S 0 ∗ S 1 ∗ S 2 ∗ S 3 ∗ S 4 ∗ R 6)).pre (by
      iintro ⟨⟨HA, H4⟩, H0, H1, H2, H3, H5, Hr⟩
      isplitl [HA H5]; · (isplitl [HA]; · iexact HA); iexact H5
      isplitl [H0]; · iassumption
      isplitl [H1]; · iassumption
      isplitl [H2]; · iassumption
      isplitl [H3]; · iassumption
      isplitl [H4] <;> iassumption)) fun _ => ?_
  refine ((h6.with iprop(S 0 ∗ S 1 ∗ S 2 ∗ S 3 ∗ S 4 ∗ S 5))).mono (by
      iintro ⟨⟨HA, H5⟩, H0, H1, H2, H3, H4, H6⟩
      isplitl [HA H6]; · (isplitl [HA]; · iexact HA); iexact H6
      isplitl [H0]; · iassumption
      isplitl [H1]; · iassumption
      isplitl [H2]; · iassumption
      isplitl [H3]; · iassumption
      isplitl [H4] <;> iassumption) fun _ => ?_
  iintro ⟨⟨HA, H6⟩, H0, H1, H2, H3, H4, H5⟩
  isplitl [HA]; · iexact HA
  isplitl [H0]; · iassumption
  isplitl [H1]; · iassumption
  isplitl [H2]; · iassumption
  isplitl [H3]; · iassumption
  isplitl [H4]; · iassumption
  isplitl [H5] <;> iassumption

/-! ## The effects -/

/-- Device `c` owes `O`. -/
def owesX (c : Dev nD) (O : CellTallies nD τ sig Unit) : sProp 𝕄 := iprop(∃ W, owes (c : Thread nD τ) O W)

/-- A unit to the barrier of the `t`-th next device, with the buffers that it may write. -/
theorem tri_signal (t : Fin 7) (dev : Dev nD) (hdev : dev = up c t) (hne : c ≠ up c t) (d a : ℕ) :
    Tri m K c iprop(owesX c (debt c t.val d a) ∗ dutyTok ER (cell (up c t) rBar) 0 c ∗ some_ c (rRow (up c t)) ∗ some_ c (aRow (up c t)))
      (semSignalWord dev barA.sem 1#32) (fun _ => owesX c (debt c (t.val + 1) d a)) := by
  subst hdev
  unfold Tri owesX
  iintro ⟨#Hc, ⟨%W, HO⟩, Ht, Hr, Ha⟩
  ihave #HI := (ctx_inv m K (up c t) rBar) $$ Hc
  ihave #HR := (ctx_reached m K (up c t) rBar) $$ Hc
  simp only [semSignalWord, Prog.lift]
  iapply (Rounds.wp_signal 𝒱₀ ER (rd m) (c : Thread nD τ) none (dst := (up c t : Thread nD τ)) (κ := K (up c t, rBar)) (r := 0) (d := c)
      ((rd_duties m (up c t) rBar 0).symm ▸ Finset.mem_erase.mpr ⟨hne, Finset.mem_univ _⟩)
      ((rd_amount m (up c t) rBar 0 c).trans (by decide)) () (debt c (t.val + 1) d a) (debt_bar c t d a)) $$ [HO Ht Hr Ha]
  · isplitr; · iexact HI
    isplitl [HO]; · iexact HO
    isplitl [Ht]; · iexact Ht
    isplitl [Hr Ha]
    · iapply (show iprop(some_ c (rRow (up c t)) ∗ some_ c (aRow (up c t))) ⊢ (rd m).payload ((up c t : Thread nD τ), SemLoc.reg barA.sem) 0 c from
        Entails.of_eq (rd_payload m (up c t) rBar 0 c).symm)
      isplitl [Hr] <;> iassumption
    iexact HR
  iintro HO
  iapply (le_wp_ret frame _ Set.univ _ _)
  iexists W; iexact HO

/-- A wait for a whole round of a cell. -/
theorem tri_wait (ro : Role) (r : ℕ) {w : TpuEff nD τ sig (Elt F) Λ₀ .tc PUnit} {k' : ℕ} (O : CellTallies nD τ sig Unit)
    (hw : ∀ Kt : PUnit → sProp 𝕄, wpE (defs₀ (F := F)) 𝒱₀ (c : Thread nD τ) none Set.univ w Kt = waitSpec (c : Thread nD τ) Set.univ (csem ro) k' Kt)
    (hk : k' = (dutyOf c (some ro) r).card * amt (some ro)) (hm : (levAts L lv : sProp 𝕄) ⊢ MayWait (c : Thread nD τ) (csem ro) () O) :
    Tri m K c iprop(owesX c O ∗ cred (tallyAt (cell c ro) () k') ∗ atPos ER (cell c ro) r ∅ 0) (Prog.lift w)
      (fun _ => iprop(owesX c O ∗ atPos ER (cell c ro) (r + 1) ∅ 0 ∗ reached ER (cell c ro) (r + 1) ∗ bigSep (dutyOf c (some ro) r) (fun d => pay m c (some ro) r d))) := by
  unfold Tri owesX
  iintro ⟨#Hc, ⟨%W, HO⟩, Hcr, Hat⟩
  ihave #HI := (ctx_inv m K c ro) $$ Hc
  ihave #HL := (ctx_lev m K) $$ Hc
  simp only [Prog.lift]
  iapply (Rounds.wp_wait_rest_token 𝒱₀ ER (rd m) (c : Thread nD τ) none (κ := K (c, ro)) hw (Set.mem_univ _) () (O := O) (W := W) (R := r) (m := 0) (T := ∅)
      (by rw [rd_expect, hk, Nat.zero_add])) $$ [Hcr HO Hat]
  · isplitr; · iexact HI
    isplitl [Hcr]; · iexact Hcr
    isplitl [HO]; · iexact HO
    isplitr; · iapply hm; iexact HL
    iexact Hat
  iintro ⟨HO, Hat, Hr, Hp⟩
  iapply (le_wp_ret frame _ Set.univ _ _)
  isplitl [HO]; · iexists _; iexact HO
  isplitl [Hat]; · iexact Hat
  isplitl [Hr]; · iexact Hr
  iapply (Entails.of_eq (rd_rest m c ro r)); iexact Hp

/-- A fetch started. -/
theorem tri_copy (ro : Role) (r : ℕ) {sp sp' : Space} {s : Shape} {e : EltTy} {src : Memref sig .tc sp s e} {dst : Memref sig .tc sp' s e}
    {hsrc : src.view.WordExact} {hdst : dst.view.WordExact} {sm : SemLoc sig} {hsem : DmaTarget.Typed (nD := nD) (p := .tc) sp sm (.here dst)}
    (hsm : sm = csem ro) {q : PosShare TreeShare} {fs : Buf (Elt F) (src.view.loc (c : Thread nD τ))} (h0 : (0 : Dev nD) ∈ dutyOf c (some ro) r)
    (hN : dst.view.dmaCredit = amt (some ro)) (hsm' : ∀ v : View sig .tc sp' s e, v.amount sm = v.dmaCredit)
    (hpay : iprop(holds c dst (src.view.read (Elt F) fs) ∗ pts c src q fs) ⊢ pay m c (some ro) r 0) :
    Tri m K c iprop(pts c src q fs ∗ some_ c dst ∗ dutyTok ER (cell c ro) r 0 ∗ reached ER (cell c ro) r)
      (Prog.lift (.enqueueDma src (.here dst) sm hsrc hdst hsem)) (fun _ => cred (tallyAt (cell c ro) () (amt (some ro)))) := by
  subst hsm
  unfold Tri
  iintro ⟨#Hc, Hs, Hd, Ht, #HR⟩
  unfold some_
  icases Hd with ⟨%fd, Hd⟩
  ihave #HI := (ctx_inv m K c ro) $$ Hc
  simp only [Prog.lift]
  unfold pts
  iapply (Rounds.wp_copy_pointsTo 𝒱₀ ER (rd m) (c : Thread nD τ) none (κ := K (c, ro)) (r := r) (d := 0) (fd := fd) (q := q) (fs := fs)
      ((rd_duties m c ro r).symm ▸ h0) () (amt (some ro)) ((hsm' _).trans hN) (rd_amount m c ro r 0)
      (((by
        unfold holds pts
        iintro ⟨Hd, Hs⟩
        isplitl [Hd]
        · iexists _; isplitr
          rotate_left
          · iexact Hd
          · ipureintro; exact View.read_write_univ _ _
        · iexact Hs) : _ ⊢ _).trans (hpay.trans (Entails.of_eq (rd_payload m c ro r 0).symm)))) $$ [Hs Hd Ht]
  · isplitr; · iexact HI
    isplitl [Hs]; · iexact Hs
    isplitl [Hd]; · iexact Hd
    isplitl [Ht]; · iexact Ht
    iexact HR
  iintro Hcr
  iapply (le_wp_ret frame _ Set.univ _ _)
  iexact Hcr

/-- A transfer to another device started. -/
theorem tri_send (c' : Dev nD) (roS roR : Role) {sp sp' : Space} {s : Shape} {e : EltTy} {src : Memref sig .tc sp s e} {dst : Memref sig .tc sp' s e}
    {hsrc : src.view.WordExact} {hdst : dst.view.WordExact} {sS sR : SemLoc sig} {hsc : dst.view.ref.isScScratch = false}
    {hsem : DmaTarget.Typed (p := .tc) sp sR (.remote (Dev.tc c' : Thread nD τ) dst sS hsc)}
    (hS : sS = csem roS) (hR : sR = csem roR) {q : PosShare TreeShare} {fs : Buf (Elt F) (src.view.loc (c : Thread nD τ))} {n : ℕ}
    (h0 : (0 : Dev nD) ∈ dutyOf c (some roS) 0) (h0' : (0 : Dev nD) ∈ dutyOf c' (some roR) 0)
    (hN : dst.view.dmaCredit = n) (hnS : amt (some roS) = n) (hnR : amt (some roR) = n) (hsm' : ∀ v : View sig .tc sp' s e, v.amount sR = v.dmaCredit)
    (O : CellTallies nD τ sig Unit) {O₀ : CellTallies nD τ sig Unit} (hO : O₀ = O + tallyAt (cell c' roR) () n)
    (hpayS : pts c src q fs ⊢ pay m c (some roS) 0 0) (hpayR : holds c' dst (src.view.read (Elt F) fs) ⊢ pay m c' (some roR) 0 0) :
    Tri m K c iprop(owesX c O₀ ∗ pts c src q fs ∗ some_ c' dst ∗ dutyTok ER (cell c roS) 0 0 ∗ dutyTok ER (cell c' roR) 0 0)
      (Prog.lift (.enqueueDma src (.remote (Dev.tc c' : Thread nD τ) dst sS hsc) sR hsrc hdst hsem))
      (fun _ => iprop(owesX c O ∗ cred (tallyAt (cell c roS) () n))) := by
  subst hS hR
  unfold Tri owesX
  iintro ⟨#Hc, ⟨%W, HO⟩, Hs, Hd, HtS, HtR⟩
  unfold some_
  icases Hd with ⟨%fd, Hd⟩
  ihave #HI := (ctx_inv m K c roS) $$ Hc
  ihave #HI' := (ctx_inv m K c' roR) $$ Hc
  ihave #HR := (ctx_reached m K c roS) $$ Hc
  ihave #HR' := (ctx_reached m K c' roR) $$ Hc
  simp only [Prog.lift]
  unfold pts
  iapply (Rounds.wp_send_pointsTo 𝒱₀ ER (rd m) (c : Thread nD τ) none (c' := (c' : Thread nD τ)) (κ₁ := K (c, roS)) (κ₂ := K (c', roR)) (r₁ := 0) (r₂ := 0) (d₁ := 0) (d₂ := 0)
      (fd := fd) (q := q) (fs := fs)
      ((rd_duties m c roS 0).symm ▸ h0) ((rd_duties m c' roR 0).symm ▸ h0') () () n ((hsm' _).trans hN) ((rd_amount m c roS 0 0).trans hnS) ((rd_amount m c' roR 0 0).trans hnR)
      O hO (W := W) (hpayS.trans (Entails.of_eq (rd_payload m c roS 0 0).symm))
      (((by
        unfold holds pts
        iintro Hd
        iexists _; isplitr
        rotate_left
        · iexact Hd
        · ipureintro; exact View.read_write_univ _ _) : _ ⊢ _).trans (hpayR.trans (Entails.of_eq (rd_payload m c' roR 0 0).symm)))) $$ [HO Hs Hd HtS HtR]
  · isplitr; · iexact HI
    isplitr; · iexact HI'
    isplitl [Hs]; · iexact Hs
    isplitl [Hd]; · iexact Hd
    isplitl [HO]; · iexact HO
    isplitl [HtS]; · iexact HtS
    isplitr; · iexact HR
    isplitl [HtR]; · iexact HtR
    iexact HR'
  iintro ⟨Hcr, HO⟩
  iapply (le_wp_ret frame _ Set.univ _ _)
  isplitl [HO]; · iexists W; iexact HO
  iexact Hcr

/-- A load. -/
theorem tri_load {cs : CoreSpace} {s : Shape} {e : EltTy} {M : Memref sig .tc cs s e} {r : Rect s} {hl : M.view.LoadsAt r.toLoadRect}
    {S : Finset (Idx ((M.access r).loc (c : Thread nD τ)))} {q : PosShare TreeShare} {f : Buf (Elt F) ((M.access r).loc (c : Thread nD τ))} (hS : (M.access r).set ⊆ S) :
    Tri m K c ((M.access r).loc (c : Thread nD τ) ↦[S]{q} f) (Prog.lift (.load M r.toLoadRect hl))
      (fun x => iprop(⌜x = (M.access r).read (Elt F) f⌝ ∗ ((M.access r).loc (c : Thread nD τ) ↦[S]{q} f))) := by
  unfold Tri
  iintro ⟨-, H⟩
  simp only [Prog.lift]
  iapply (wp_load_rect 𝒱₀ (c : Thread nD τ) none Set.univ hS) $$ H
  iintro H
  iapply (le_wp_ret frame _ Set.univ _ _)
  isplitr; · ipureintro; rfl
  iexact H

/-- A store. -/
theorem tri_store {cs : CoreSpace} {s : Shape} {e : EltTy} {M : Memref sig .tc cs s e} {r : Rect s} {w : r.shape.Idx → Elt F e} {hx : (M.access r).Stores Finset.univ}
    {hm : (Finset.univ : Finset r.shape.Idx) = Finset.univ ∨ ∀ a, r.stride a = 1}
    {S : Finset (Idx ((M.access r).loc (c : Thread nD τ)))} {f : Buf (Elt F) ((M.access r).loc (c : Thread nD τ))} (hS : (M.access r).set ⊆ S) :
    Tri m K c ((M.access r).loc (c : Thread nD τ) ↦[S]{fullShare} f) (Prog.lift (.store M r w Finset.univ hx hm))
      (fun _ => (M.access r).loc (c : Thread nD τ) ↦[S]{fullShare} (M.access r).write (Elt F) f w Finset.univ) := by
  unfold Tri
  iintro ⟨-, H⟩
  simp only [Prog.lift]
  iapply (wp_store 𝒱₀ (c : Thread nD τ) none Set.univ (by rwa [View.setOn_univ])) $$ H
  iintro H
  iapply (le_wp_ret frame _ Set.univ _ _)
  iexact H

end Cert.KernelIdeal.A2A

end
-- ==== Proof.Steps.lean ====
/- The steps of the body, each a triple: a step of the kernel that is repeated is proved once, at a symbolic trip. -/
module

public import proofs.«01_k».proof.Proof.Triple
public import Idealize.ShloMosaic.Lib.Pipeline.Value

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable {m : Mem0 F} {K : Dev nD × Role → ℕ} {c : Dev nD}

/-! ## Contents -/

section Contents
variable {sp : Space} {s s' : Shape} {e : EltTy}

omit [FloatOps F] in
theorem some_holds (d : Dev nD) (M : Memref sig .tc sp s e) : (some_ d M : sProp 𝕄) ⊢ iprop(∃ v, holds d M v) := by
  unfold some_ holds
  iintro ⟨%f, H⟩; iexists _; iexists f; isplitr; · ipureintro; rfl
  iexact H
omit [FloatOps F] in
theorem holds_some (d : Dev nD) (M : Memref sig .tc sp s e) (v : s.Idx → Elt F e) : (holds d M v : sProp 𝕄) ⊢ some_ d M := by
  unfold some_ holds
  iintro ⟨%f, -, H⟩; iexists f; iexact H
omit [FloatOps F] in
theorem pts_some (d : Dev nD) (M : Memref sig .tc sp s e) (f : Buf (Elt F) (M.view.loc (d : Thread nD τ))) : (pts d M fullShare f : sProp 𝕄) ⊢ some_ d M := by
  unfold some_
  iintro H; iexists f; iexact H

omit [FloatOps F] in
/-- Contents that read the same through a memref are the same there. -/
theorem holds_pts (d : Dev nD) (M : Memref sig .tc sp s e) (f : Buf (Elt F) (M.view.loc (d : Thread nD τ))) : (holds d M (M.view.read (Elt F) f) : sProp 𝕄) ⊢ pts d M fullShare f := by
  unfold holds pts
  iintro ⟨%g, %hg, H⟩
  iapply (Entails.of_eq (pointsTo_congr (fun i hi => by
    obtain ⟨x, -, rfl⟩ := Finset.mem_map.mp hi
    have := congrFun hg x
    exact (cast_inj _).1 this))); iexact H

omit [FloatOps F] in
/-- A squeezed slice's elements are those that an access through the slice's rectangle touches. -/
theorem pts_sq (d : Dev nD) (M : Memref sig .tc sp s e) (r : Rect s) (hr : ∀ a, r.stride a = 1) (hq : r.shape.Squeezes s') (q : PosShare TreeShare)
    (f : Buf (Elt F) (M.view.loc (d : Thread nD τ))) :
    (pts d ((M.slice r hr).squeeze s' hq) q f : sProp 𝕄) = ((M.access r).loc (d : Thread nD τ) ↦[(M.access r).set]{q} f) := by
  show ((M.access r).loc (d : Thread nD τ) ↦[((M.slice r hr).squeeze s' hq).view.set]{q} f : sProp 𝕄) = _
  rw [Memref.set_view_squeeze]
end Contents

section Access
variable {cs : CoreSpace} {s s' : Shape} {e : EltTy} {M : Memref sig .tc cs s e} {r : Rect s}

/-- A load from a buffer held whole. -/
theorem tri_load_in {hl : M.view.LoadsAt r.toLoadRect} {v : s.Idx → Elt F e} :
    Tri m K c (holds c M v) (Prog.lift (.load M r.toLoadRect hl)) (fun x => iprop(⌜x = fun i => v (r.emb i)⌝ ∗ holds c M v)) := by
  unfold holds pts
  refine Tri.exists fun f => Tri.pure fun hf => ?_
  refine (tri_load (View.set_slice_subset M.view r)).post fun x => ?_
  iintro ⟨%hx, H⟩
  isplitr
  · ipureintro; rw [hx, ← hf]; rfl
  iexists f; isplitr; · ipureintro; exact hf
  iexact H

/-- A load that nothing uses. -/
theorem tri_peek {hl : M.view.LoadsAt r.toLoadRect} :
    Tri m K c (some_ c M) (Prog.lift (.load M r.toLoadRect hl)) (fun _ => some_ c M) :=
  (Tri.exists fun v => (tri_load_in (v := v)).post fun _ => (by iintro ⟨-, H⟩; iapply (holds_some c M v); iexact H)).pre (some_holds c M)

/-- A load of a squeezed slice. -/
theorem tri_load_sq {hr : ∀ a, r.stride a = 1} {hq : r.shape.Squeezes s'} {hl : M.view.LoadsAt r.toLoadRect} (hc : r.shape.ShapeCasts s') {v : s'.Idx → Elt F e} :
    Tri m K c (holds c ((M.slice r hr).squeeze s' hq) v) (Prog.lift (.load M r.toLoadRect hl))
      (fun x => iprop(⌜shapeCast s' x hc = v⌝ ∗ holds c ((M.slice r hr).squeeze s' hq) v)) := by
  unfold holds
  refine Tri.exists fun f => Tri.pure fun hf => ?_
  rw [pts_sq]
  refine (tri_load (Finset.Subset.refl _)).post fun x => ?_
  iintro ⟨%hx, H⟩
  isplitr
  · ipureintro; rw [hx, ← hf]; rfl
  iexists f; isplitr; · ipureintro; exact hf
  iapply (Entails.of_eq (pts_sq c M r hr hq fullShare f).symm); iexact H

theorem tri_peek_sq {hr : ∀ a, r.stride a = 1} {hq : r.shape.Squeezes s'} {hl : M.view.LoadsAt r.toLoadRect} (hc : r.shape.ShapeCasts s') :
    Tri m K c (some_ c ((M.slice r hr).squeeze s' hq)) (Prog.lift (.load M r.toLoadRect hl)) (fun _ => some_ c ((M.slice r hr).squeeze s' hq)) :=
  (Tri.exists fun v => (tri_load_sq hc (v := v)).post fun _ => (by iintro ⟨-, H⟩; iapply (holds_some c _ v); iexact H)).pre (some_holds c _)

/-- A store to a squeezed slice. -/
theorem tri_store_sq {hr : ∀ a, r.stride a = 1} {hq : r.shape.Squeezes s'} (hc : s'.ShapeCasts r.shape) (hc' : r.shape.ShapeCasts s') {v : s'.Idx → Elt F e}
    {hx : (M.access r).Stores Finset.univ} {hm : (Finset.univ : Finset r.shape.Idx) = Finset.univ ∨ ∀ a, r.stride a = 1} :
    Tri m K c (some_ c ((M.slice r hr).squeeze s' hq)) (Prog.lift (.store M r (shapeCast r.shape v hc) Finset.univ hx hm))
      (fun _ => holds c ((M.slice r hr).squeeze s' hq) v) := by
  unfold some_ holds
  refine Tri.exists fun f => ?_
  rw [pts_sq]
  refine (tri_store (Finset.Subset.refl _)).post fun _ => ?_
  iintro H
  iexists _; isplitr
  rotate_left
  · iapply (Entails.of_eq (pts_sq c M r hr hq fullShare _).symm); iexact H
  · ipureintro
    show shapeCast s' ((M.access r).read (Elt F) _) hc' = v
    rw [View.read_write_univ]; exact shapeCast_shapeCast v hc hc'

/-- A store to a slice. -/
theorem tri_store_slice {hr : ∀ a, r.stride a = 1} {v : r.shape.Idx → Elt F e}
    {hx : (M.access r).Stores Finset.univ} {hm : (Finset.univ : Finset r.shape.Idx) = Finset.univ ∨ ∀ a, r.stride a = 1} :
    Tri m K c (some_ c (M.slice r hr)) (Prog.lift (.store M r v Finset.univ hx hm)) (fun _ => holds c (M.slice r hr) v) := by
  unfold some_ holds pts
  refine Tri.exists fun f => ?_
  refine (tri_store (Finset.Subset.refl _)).post fun _ => ?_
  iintro H
  iexists _; isplitr
  rotate_left
  · iexact H
  · ipureintro; exact View.read_write_univ _ _

theorem tri_peek_slice {hr : ∀ a, r.stride a = 1} {hl : M.view.LoadsAt r.toLoadRect} :
    Tri m K c (some_ c (M.slice r hr)) (Prog.lift (.load M r.toLoadRect hl)) (fun _ => some_ c (M.slice r hr)) := by
  unfold some_ pts
  refine Tri.exists fun f => (tri_load (Finset.Subset.refl _)).post fun _ => ?_
  iintro ⟨-, H⟩; iexists f; iexact H

theorem emb_zero {off : Fin s.rank → ℕ} (h : off = fun _ => 0) (inb : ∀ a, off a + s.size a ≤ s.size a) (i : s.Idx) : (Rect.unit off s.size inb).emb i = i := by
  subst h; exact Rect.emb_whole_apply _ i

theorem read_write_full {off : Fin s.rank → ℕ} (h : off = fun _ => 0) (inb : ∀ a, off a + s.size a ≤ s.size a) (f : M.view.ty.Contents (Elt F)) (v : s.Idx → Elt F e) :
    M.view.read (Elt F) ((M.access (Rect.unit off s.size inb)).write (Elt F) f v Finset.univ) = v := by
  have key := View.read_write_univ (Val := Elt F) (v := M.access (Rect.unit off s.size inb)) f v
  funext i
  have hi := congrFun key i
  generalize (M.access (Rect.unit off s.size inb)).write (Elt F) f v Finset.univ = g at hi ⊢
  have he : (M.access (Rect.unit off s.size inb)).read (Elt F) g i = M.view.read (Elt F) g ((Rect.unit off s.size inb).emb i) := rfl
  rw [he, emb_zero h] at hi
  exact hi

/-- A store to a buffer held whole, of the whole buffer. -/
theorem tri_store_full {off : Fin s.rank → ℕ} (h : off = fun _ => 0) (inb : ∀ a, off a + s.size a ≤ s.size a) {v : s.Idx → Elt F e}
    {hx : (M.access (Rect.unit off s.size inb)).Stores Finset.univ} {hm : (Finset.univ : Finset (Rect.unit off s.size inb).shape.Idx) = Finset.univ ∨ ∀ a, (Rect.unit off s.size inb).stride a = 1} :
    Tri m K c (some_ c M) (Prog.lift (.store M (Rect.unit off s.size inb) v Finset.univ hx hm)) (fun _ => holds c M v) := by
  unfold some_ holds pts
  refine Tri.exists fun f => ?_
  refine (tri_store (r := Rect.unit off s.size inb) (View.set_slice_subset M.view _)).post fun _ => ?_
  iintro H
  iexists _; isplitr
  rotate_left
  · iexact H
  · ipureintro; exact read_write_full h inb f v

/-- A load of the whole of a buffer. -/
theorem tri_load_full {off : Fin s.rank → ℕ} (h : off = fun _ => 0) (inb : ∀ a, off a + s.size a ≤ s.size a) {v : s.Idx → Elt F e}
    {hl : M.view.LoadsAt (Rect.unit off s.size inb).toLoadRect} :
    Tri m K c (holds c M v) (Prog.lift (.load M (Rect.unit off s.size inb).toLoadRect hl)) (fun x => iprop(⌜x = v⌝ ∗ holds c M v)) :=
  tri_load_in.post fun x => (by
    iintro ⟨%hx, H⟩
    isplitr
    · ipureintro; rw [hx]; funext i; exact congrArg v (emb_zero h inb i)
    iexact H)
end Access

/-! ## Waits -/

/-- A wait on a transfer's semaphore for a whole round of one payment. -/
theorem tri_waitDma (ro : Role) (r : ℕ) {sp sp' : Space} {s s' : Shape} {e e' : EltTy} {sem : DmaSem sig} {src : Memref sig .tc sp' s' e'} {dst : Memref sig .tc sp s e}
    {hsrc : src.view.WordExact} {hdst : dst.view.WordExact} (hs : SemLoc.dma sem = csem ro) (hd : dutyOf c (some ro) r = {0}) (hN : dst.view.dmaCredit = amt (some ro))
    {O : CellTallies nD τ sig Unit} (hm : (levAts L lv : sProp 𝕄) ⊢ MayWait (c : Thread nD τ) (csem ro) () O) :
    Tri m K c iprop(owesX c O ∗ cred (tallyAt (cell c ro) () (amt (some ro))) ∗ atPos ER (cell c ro) r ∅ 0) (Prog.lift (.waitDma2 sem src dst hsrc hdst))
      (fun _ => iprop(owesX c O ∗ atPos ER (cell c ro) (r + 1) ∅ 0 ∗ reached ER (cell c ro) (r + 1) ∗ pay m c (some ro) r 0)) := by
  refine (tri_wait ro r O (k' := amt (some ro)) (fun Kt => ?_) (by rw [hd, Finset.card_singleton, Nat.one_mul]) hm).post fun _ => ?_
  · rw [← hs, ← hN]; exact wpE_waitDma2_eq 𝒱₀ (c : Thread nD τ) none Set.univ Kt
  · rw [hd, bigSep_singleton]

/-- The barrier: each of the others has said that its buffers are free. -/
theorem tri_barWait (d a : ℕ) :
    Tri m K c iprop(owesX c (debt c 7 d a) ∗ cred (tallyAt (cell c rBar) () 7) ∗ atPos ER (cell c rBar) 0 ∅ 0) (semWaitWord barA.sem 7#32)
      (fun _ => iprop(owesX c (debt c 7 d a) ∗ atPos ER (cell c rBar) 1 ∅ 0 ∗ bigSep (Finset.univ.erase c) (fun d => iprop(some_ d (rRow c) ∗ some_ d (aRow c))))) := by
  have hd : dutyOf c (some rBar) 0 = Finset.univ.erase c := rfl
  refine (tri_wait rBar 0 (debt c 7 d a) (k' := 7) (fun Kt => ?_) (by rw [hd, Finset.card_erase_of_mem (Finset.mem_univ _)]; rfl) (mayWait_bar c d a)).post fun _ => ?_
  · exact wpE_semWait_eq 𝒱₀ (c : Thread nD τ) none Set.univ Kt
  · iintro ⟨HO, Hat, -, Hp⟩
    isplitl [HO]; · iexact HO
    isplitl [Hat]; · iexact Hat
    iexact Hp

end Cert.KernelIdeal.A2A

end
-- ==== Proof.Comm.lean ====
/- The kernel's own steps: the fetch of a chunk, a product, a block put and sent, a row of maxima sent, a block of the
   output, and the waits, each as a triple at a symbolic trip. -/
module

public import proofs.«01_k».proof.Proof.Steps

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Devices, semaphores, credits -/

theorem up_ne (c : Dev nD) (t : Fin 7) : up c t ≠ c := by revert c t; decide
theorem dn_ne (c : Dev nD) (t : Fin 7) : dn c t ≠ c := by revert c t; decide

theorem sem_inb (j : Fin 8) : ∀ i, (![j.val] : Fin 1 → ℕ) i + S1.size i ≤ S8.size i := by revert j; decide
theorem sem_off (a : ℕ) (ha : a + 8 ≤ 38) (A : DmaSems sig S8) (hA : ∀ j : Fin 8, semAt A ![j.val] (sem_inb j) = dsem a ha j)
    {o : Fin 1 → ℕ} (h : ∀ i, o i + S1.size i ≤ S8.size i) (j : Fin 8) (ho : o = ![j.val]) : semAt A o h = dsem a ha j := by
  subst ho; exact hA j
theorem sem14 {o : Fin 1 → ℕ} (h : ∀ i, o i + S1.size i ≤ S8.size i) (j : Dev nD) (ho : o = ![j.val]) : SemLoc.dma (semAt cc0_scratch14 o h) = csem (rDS j) :=
  congrArg SemLoc.dma (sem_off 6 (by decide) _ (by decide +kernel) h j ho)
theorem sem15 {o : Fin 1 → ℕ} (h : ∀ i, o i + S1.size i ≤ S8.size i) (j : Dev nD) (ho : o = ![j.val]) : SemLoc.dma (semAt cc0_scratch15 o h) = csem (rDR j) :=
  congrArg SemLoc.dma (sem_off 14 (by decide) _ (by decide +kernel) h j ho)
theorem sem16 {o : Fin 1 → ℕ} (h : ∀ i, o i + S1.size i ≤ S8.size i) (j : Dev nD) (ho : o = ![j.val]) : SemLoc.dma (semAt cc0_scratch16 o h) = csem (rAS j) :=
  congrArg SemLoc.dma (sem_off 22 (by decide) _ (by decide +kernel) h j ho)
theorem sem17 {o : Fin 1 → ℕ} (h : ∀ i, o i + S1.size i ≤ S8.size i) (j : Dev nD) (ho : o = ![j.val]) : SemLoc.dma (semAt cc0_scratch17 o h) = csem (rAR j) :=
  congrArg SemLoc.dma (sem_off 30 (by decide) _ (by decide +kernel) h j ho)

theorem cred_x : xV.view.dmaCredit = amt (some rX) := by unfold amt NX; rfl
theorem cred_w (k : Fin 4) : (wbuf k).view.dmaCredit = amt (some (rW k)) := by unfold amt NW; fin_cases k <;> rfl
theorem cred_r {o : Fin 3 → ℕ} (h : ∀ i, o i + S1x512x256.size i ≤ S8x512x256.size i) : (blkAt recvV o h).view.dmaCredit = NB := by unfold NB; rfl
theorem cred_s {o : Fin 3 → ℕ} (h : ∀ i, o i + S1x512x256.size i ≤ S8x512x256.size i) : (blkAt sendV o h).view.dmaCredit = NB := by unfold NB; rfl
theorem cred_a {o : Fin 2 → ℕ} (h : ∀ i, o i + S1x128.size i ≤ S8x128.size i) : (rowAt o h).view.dmaCredit = NA := by unfold NA; rfl

theorem dn_val (c : Dev nD) (t : Fin 7) : (c.val + 7 - t.val) % 8 = (dn c t).val := by
  have := t.isLt
  show _ = (c.val + (7 - t.val)) % 8
  rw [Nat.add_sub_assoc (by omega)]

theorem dutyDS {c j : Dev nD} (h : j ≠ c) : dutyOf c (some (rDS j)) 0 = {0} := if_pos ⟨rfl, h⟩
theorem dutyDR {c j : Dev nD} (h : j ≠ c) : dutyOf c (some (rDR j)) 0 = {0} := if_pos ⟨rfl, h⟩
theorem dutyAR {c j : Dev nD} (h : j ≠ c) : dutyOf c (some (rAR j)) 0 = {0} := if_pos ⟨rfl, h⟩
theorem dutyAS {c : Dev nD} (t : Fin 7) : dutyOf c (some (rAS t.castSucc)) 0 = {0} := if_pos ⟨rfl, t.isLt⟩
theorem dutyW {c : Dev nD} (k : Fin 4) {r : ℕ} (h : r < 2) : dutyOf c (some (rW k)) r = {0} := if_pos h
theorem dutyX {c : Dev nD} : dutyOf c (some rX) 0 = {0} := rfl

variable {m : Mem0 F} {K : Dev nD × Role → ℕ} {c : Dev nD}

theorem pay_dS (c j : Dev nD) (r : ℕ) (d : Dev nD) : pay m c (some (rDS j)) r d = some_ c (sRow j) := by unfold pay; rfl
theorem pay_dR (c s : Dev nD) (r : ℕ) (d : Dev nD) : pay m c (some (rDR s)) r d = holds c (rRow s) (ybAt m s c) := by unfold pay; rfl
theorem pay_aR (c s : Dev nD) (r : ℕ) (d : Dev nD) : pay m c (some (rAR s)) r d = pts c (aRow s) fullShare (tab m) := by unfold pay; rfl
theorem pay_aS (c : Dev nD) (t : Fin 7) (r : ℕ) (d : Dev nD) : pay m c (some (rAS t.castSucc)) r d = pts c (aRow c) (tokShare t) (tab m) := by
  unfold pay; exact dif_pos t.isLt
theorem pay_w (c : Dev nD) (k : Fin 4) (r : ℕ) (d : Dev nD) :
    pay m c (some (rW k)) r d = iprop(holds c (wbuf k) (wAt m c (wDev c k r)) ∗ pts c (wCol (wDev c k r)) fullShare (m ((c : Thread nD τ).loc main_arg1))) := by unfold pay; rfl
theorem pay_x (c : Dev nD) (r : ℕ) (d : Dev nD) :
    pay m c (some rX) r d = iprop(holds c xV (xAt m c) ∗ pts c xH fullShare (m ((c : Thread nD τ).loc main_arg0))) := by unfold pay; rfl

/-! ## The fetches -/

/-- Weight buffer `k` after `n` of its four steps: fetch, product, fetch, product. -/
def wst (m : Mem0 F) (c : Dev nD) (k : Fin 4) : ℕ → sProp 𝕄
  | 0 => iprop((some_ c (wbuf k) ∗ atPos ER (cell c (rW k)) 0 ∅ 0) ∗ (pts c (wCol (wDev c k 0)) fullShare (m ((c : Thread nD τ).loc main_arg1)) ∗ dutyTok ER (cell c (rW k)) 0 0)
      ∗ (pts c (wCol (wDev c k 1)) fullShare (m ((c : Thread nD τ).loc main_arg1)) ∗ dutyTok ER (cell c (rW k)) 1 0))
  | 1 => iprop((cred (tallyAt (cell c (rW k)) () (amt (some (rW k)))) ∗ atPos ER (cell c (rW k)) 0 ∅ 0)
      ∗ (pts c (wCol (wDev c k 1)) fullShare (m ((c : Thread nD τ).loc main_arg1)) ∗ dutyTok ER (cell c (rW k)) 1 0))
  | 2 => iprop((some_ c (wbuf k) ∗ (atPos ER (cell c (rW k)) 1 ∅ 0 ∗ reached ER (cell c (rW k)) 1)) ∗ pts c (wCol (wDev c k 0)) fullShare (m ((c : Thread nD τ).loc main_arg1))
      ∗ (pts c (wCol (wDev c k 1)) fullShare (m ((c : Thread nD τ).loc main_arg1)) ∗ dutyTok ER (cell c (rW k)) 1 0))
  | 3 => iprop((cred (tallyAt (cell c (rW k)) () (amt (some (rW k)))) ∗ atPos ER (cell c (rW k)) 1 ∅ 0) ∗ pts c (wCol (wDev c k 0)) fullShare (m ((c : Thread nD τ).loc main_arg1)))
  | _ => iprop((some_ c (wbuf k) ∗ atPos ER (cell c (rW k)) 2 ∅ 0) ∗ pts c (wCol (wDev c k 0)) fullShare (m ((c : Thread nD τ).loc main_arg1))
      ∗ pts c (wCol (wDev c k 1)) fullShare (m ((c : Thread nD τ).loc main_arg1)))

theorem wChunk_eq (c : Dev nD) (t : Fin 8) : wChunk c t = wCol (pr c (t.val + 1)) := Memref.slice_unit_congr wH (k0_off1_eq c t) _ _ _ _

theorem tri_fetch_aux (k : Fin 4) (r : ℕ) (hr : r < 2) {src : Memref sig .tc .hbm S4096x256 .f32} (hsrc : src = wCol (wDev c k r)) {sm : SemLoc sig} (hsm : sm = csem (rW k))
    {h₁ : src.view.WordExact} {h₂ : (wbuf k).view.WordExact} {h₃ : DmaTarget.Typed (nD := nD) (p := .tc) .hbm sm (.here (wbuf k))} (hsm' : ∀ v : View sig .tc .vmem S4096x256 .f32, v.amount sm = v.dmaCredit) :
    Tri m K c iprop(pts c (wCol (wDev c k r)) fullShare (m ((c : Thread nD τ).loc main_arg1)) ∗ some_ c (wbuf k) ∗ dutyTok ER (cell c (rW k)) r 0 ∗ reached ER (cell c (rW k)) r)
      (Prog.lift (.enqueueDma src (.here (wbuf k)) sm h₁ h₂ h₃)) (fun _ => cred (tallyAt (cell c (rW k)) () (amt (some (rW k))))) := by
  subst hsrc
  exact tri_copy (rW k) r hsm ((dutyW k hr).symm ▸ Finset.mem_singleton_self _) (cred_w k) hsm' .rfl

theorem tri_reached (ro : Role) {α : Type} {P : sProp 𝕄} {f : KProg F α} {Q : α → sProp 𝕄} (h : Tri m K c iprop(P ∗ reached ER (cell c ro) 0) f Q) : Tri m K c P f Q := by
  unfold Tri at *
  iintro ⟨#Hc, HP⟩
  ihave #HR := (ctx_reached m K c ro) $$ Hc
  iapply h
  isplitr; · iexact Hc
  isplitl [HP]; · iexact HP
  iexact HR

theorem tri_fetch0 (k : Fin 4) (t : Fin 8) (ht : t.val = k.val) {ws : DmaSem sig} (hws : SemLoc.dma ws = csem (rW k)) {h : (wbuf k).view.WordExact} :
    Tri m K c (wst m c k 0) (fetchP c t (wbuf k) ws h) (fun _ => wst m c k 1) := by
  refine tri_reached (rW k) ?_
  simp only [wst]
  unfold fetchP
  refine ((tri_fetch_aux k 0 (by decide) ((wChunk_eq c t).trans (by rw [ht]; unfold wDev; rw [Nat.mul_zero, Nat.zero_add])) hws (fun _ => rfl)).with
    iprop(atPos ER (cell c (rW k)) 0 ∅ 0 ∗ (pts c (wCol (wDev c k 1)) fullShare (m ((c : Thread nD τ).loc main_arg1)) ∗ dutyTok ER (cell c (rW k)) 1 0))).mono ?_ fun _ => ?_
  · iintro ⟨⟨⟨H1, H2⟩, ⟨H3, H4⟩, H5, H6⟩, H7⟩; iframe
  · iintro ⟨H1, H2, H3, H4⟩; iframe

theorem tri_fetch1 (k : Fin 4) (t : Fin 8) (ht : t.val = k.val + 4) {ws : DmaSem sig} (hws : SemLoc.dma ws = csem (rW k)) {h : (wbuf k).view.WordExact} :
    Tri m K c (wst m c k 2) (fetchP c t (wbuf k) ws h) (fun _ => wst m c k 3) := by
  simp only [wst]
  unfold fetchP
  refine ((tri_fetch_aux k 1 (by decide) ((wChunk_eq c t).trans (by rw [ht]; unfold wDev; rw [Nat.mul_one, Nat.add_comm k.val 4])) hws (fun _ => rfl)).with
    iprop(atPos ER (cell c (rW k)) 1 ∅ 0 ∗ pts c (wCol (wDev c k 0)) fullShare (m ((c : Thread nD τ).loc main_arg1)))).mono ?_ fun _ => ?_
  · iintro ⟨⟨H1, H2, H3⟩, H4, H5, H6⟩; iframe
  · iintro ⟨H1, H2, H3⟩; iframe

/-! ## The products -/

theorem tri_prod_aux (k : Fin 4) (r r' : ℕ) (hr : r < 2) (hr' : r' = r + 1) (t : Fin 8) {ws : DmaSem sig} (hws : SemLoc.dma ws = csem (rW k)) {h : (wbuf k).view.WordExact} (b d a : ℕ) :
    Tri m K c iprop((owesX c (debt c b d a) ∗ cred (tallyAt (cell c (rW k)) () (amt (some (rW k)))) ∗ atPos ER (cell c (rW k)) r ∅ 0) ∗ holds c xbV (xbAt m c)) (prodP c t (wbuf k) ws h)
      (fun y => iprop(⌜y = yAt m c (wDev c k r)⌝ ∗ (owesX c (debt c b d a) ∗ atPos ER (cell c (rW k)) r' ∅ 0 ∗ reached ER (cell c (rW k)) r'
        ∗ pts c (wCol (wDev c k r)) fullShare (m ((c : Thread nD τ).loc main_arg1)) ∗ some_ c (wbuf k)) ∗ holds c xbV (xbAt m c))) := by
  subst hr'
  unfold prodP
  refine Tri.bind ((tri_waitDma (rW k) r hws (dutyW k hr) (cred_w k) (mayWait_low c _ (by rw [roleOf_csem]; rfl) b d a)).with _) fun _ => ?_
  refine Tri.bind ((((tri_load_full (by decide) _).with _).pre (P' := iprop(_ ∗ _)) Laws.sep_comm.1)) fun xb => ?_
  refine (Tri.pure (p := xb = xbAt m c) fun hxb => ?_).pre sep_assoc.1
  refine Tri.bind ((((tri_load_full (M := wbuf k) (v := wAt m c (wDev c k r)) (by decide) _).with
    iprop(owesX c (debt c b d a) ∗ atPos ER (cell c (rW k)) (r + 1) ∅ 0 ∗ reached ER (cell c (rW k)) (r + 1)
        ∗ pts c (wCol (wDev c k r)) fullShare (m ((c : Thread nD τ).loc main_arg1)) ∗ holds c xbV (xbAt m c))).pre ?_)) fun w => ?_
  · rw [pay_w]; iintro ⟨H1, H2, H3, H4, H5, H6⟩; iframe
  refine (Tri.pure (p := w = wAt m c (wDev c k r)) fun hw => ?_).pre sep_assoc.1
  refine Tri.ret.pre ?_
  iintro ⟨Hw, HO, Hat, Hre, Hc, Hx⟩
  isplitr; · ipureintro; rw [hxb, hw]; rfl
  isplitr [Hx]
  · isplitl [HO]; · iexact HO
    isplitl [Hat]; · iexact Hat
    isplitl [Hre]; · iexact Hre
    isplitl [Hc]; · iexact Hc
    iapply (holds_some c (wbuf k) _); iexact Hw
  · iexact Hx

theorem tri_prod0 (k : Fin 4) (t : Fin 8) {ws : DmaSem sig} (hws : SemLoc.dma ws = csem (rW k)) {h : (wbuf k).view.WordExact} (b d a : ℕ) :
    Tri m K c iprop(wst m c k 1 ∗ owesX c (debt c b d a) ∗ holds c xbV (xbAt m c)) (prodP c t (wbuf k) ws h)
      (fun y => iprop(⌜y = yAt m c (wDev c k 0)⌝ ∗ wst m c k 2 ∗ owesX c (debt c b d a) ∗ holds c xbV (xbAt m c))) := by
  simp only [wst]
  refine ((tri_prod_aux k 0 1 (by decide) rfl t hws b d a).with iprop(pts c (wCol (wDev c k 1)) fullShare (m ((c : Thread nD τ).loc main_arg1)) ∗ dutyTok ER (cell c (rW k)) 1 0)).mono ?_ fun y => ?_
  · iintro ⟨⟨⟨Hcr, Hat⟩, Hc⟩, HO, Hx⟩
    iframe
  · iintro ⟨⟨Hy, ⟨HO, Hat, Hr, Hc, Hw⟩, Hx⟩, Hc', Ht⟩
    isplitl [Hy]; · iexact Hy
    iframe

theorem tri_prod1 (k : Fin 4) (t : Fin 8) {ws : DmaSem sig} (hws : SemLoc.dma ws = csem (rW k)) {h : (wbuf k).view.WordExact} (b d a : ℕ) :
    Tri m K c iprop(wst m c k 3 ∗ owesX c (debt c b d a) ∗ holds c xbV (xbAt m c)) (prodP c t (wbuf k) ws h)
      (fun y => iprop(⌜y = yAt m c (wDev c k 1)⌝ ∗ wst m c k 4 ∗ owesX c (debt c b d a) ∗ holds c xbV (xbAt m c))) := by
  simp only [wst]
  refine ((tri_prod_aux k 1 2 (by decide) rfl t hws b d a).with iprop(pts c (wCol (wDev c k 0)) fullShare (m ((c : Thread nD τ).loc main_arg1)))).mono ?_ fun y => ?_
  · iintro ⟨⟨⟨Hcr, Hat⟩, Hc⟩, HO, Hx⟩
    iframe
  · iintro ⟨⟨Hy, ⟨HO, Hat, -, Hc, Hw⟩, Hx⟩, Hc'⟩
    isplitl [Hy]; · iexact Hy
    isplitr [HO Hx]
    · isplitl [Hw Hat]
      · isplitl [Hw]; · iexact Hw
        iexact Hat
      isplitl [Hc']; · iexact Hc'
      iexact Hc
    isplitl [HO]; · iexact HO
    iexact Hx

/-! ## Blocks put and sent -/

theorem tri_put (M : Memref sig .tc .vmem S8x512x256 .bf16) {o : Fin 3 → ℕ} {h : ∀ i, o i + S1x512x256.size i ≤ S8x512x256.size i} (j : Dev nD) (ho : o = ![j.val, 0, 0])
    (y : FVec F S512x256 .f32) {hs : (M.access (Rect.unit (s := S8x512x256) o S1x512x256.size h)).Stores Finset.univ} :
    Tri m K c (some_ c (blkAt M ![j.val, 0, 0] (blk_inb j))) (putP M o h y hs) (fun _ => holds c (blkAt M ![j.val, 0, 0] (blk_inb j)) (truncf .bf16 y bitsLt_bf16_f32)) := by
  subst ho
  unfold putP
  exact Tri.bind (tri_peek_sq shapeCasts_S1x512x256_S512x256) fun _ => tri_store_sq shapeCasts_S512x256_S1x512x256 shapeCasts_S1x512x256_S512x256

theorem tri_sendBlk_aux (t : Fin 7) {os od : Fin 3 → ℕ} {hs : ∀ i, os i + S1x512x256.size i ≤ S8x512x256.size i} {hd : ∀ i, od i + S1x512x256.size i ≤ S8x512x256.size i} {p : Dev nD}
    {sS sR : SemLoc sig} {h₁ : (blkAt sendV os hs).view.WordExact} {h₂ : (blkAt recvV od hd).view.WordExact} {hsc : (blkAt recvV od hd).view.ref.isScScratch = false}
    {h₃ : DmaTarget.Typed (p := .tc) .vmem sR (.remote (Dev.tc p : Thread nD τ) (blkAt recvV od hd) sS hsc)}
    (hp : p = up c t) (hos : os = ![(up c t).val, 0, 0]) (hod : od = ![c.val, 0, 0]) (hS : sS = csem (rDS (up c t))) (hR : sR = csem (rDR c))
    (hsm' : ∀ v : View sig .tc .vmem S512x256 .bf16, v.amount sR = v.dmaCredit) (a : ℕ) :
    Tri m K c iprop(owesX c (debt c 7 t.val a) ∗ holds c (sRow (up c t)) (ybAt m c (up c t)) ∗ some_ (up c t) (rRow c) ∗ dutyTok ER (cell c (rDS (up c t))) 0 0 ∗ dutyTok ER (cell (up c t) (rDR c)) 0 0)
      (Prog.lift (.enqueueDma (blkAt sendV os hs) (.remote (Dev.tc p : Thread nD τ) (blkAt recvV od hd) sS hsc) sR h₁ h₂ h₃))
      (fun _ => iprop(owesX c (debt c 7 (t.val + 1) a) ∗ cred (tallyAt (cell c (rDS (up c t))) () NB))) := by
  subst hp hos hod
  refine (Tri.exists (P := fun f => iprop(⌜(sRow (up c t)).view.read (Elt F) f = ybAt m c (up c t)⌝ ∗ owesX c (debt c 7 t.val a) ∗ pts c (sRow (up c t)) fullShare f ∗ some_ (up c t) (rRow c) ∗ dutyTok ER (cell c (rDS (up c t))) 0 0 ∗ dutyTok ER (cell (up c t) (rDR c)) 0 0))
    fun f => Tri.pure fun hf => ?_).pre ?_
  · exact tri_send (up c t) (rDS (up c t)) (rDR c) hS hR ((dutyDS (up_ne c t)).symm ▸ Finset.mem_singleton_self _) ((dutyDR (up_ne c t).symm).symm ▸ Finset.mem_singleton_self _)
      (cred_r _) rfl rfl hsm' _ (debt_blk c 7 t a) ((pts_some c (sRow (up c t)) f).trans (.of_eq (pay_dS c (up c t) 0 0).symm)) (.of_eq (by rw [hf, pay_dR (m := m)]))
  · unfold holds
    iintro ⟨HO, ⟨%f, %hf, Hs⟩, Hr⟩
    iexists f
    isplitr; · ipureintro; exact hf
    isplitl [HO]; · iexact HO
    isplitl [Hs]; · iexact Hs
    iexact Hr

theorem tri_sendBlk (t : Fin 7) {dev : Dev nD} (hdev : dev = up c t) (a : ℕ) :
    Tri m K c iprop(owesX c (debt c 7 t.val a) ∗ some_ c (sRow (up c t)) ∗ some_ (up c t) (rRow c) ∗ dutyTok ER (cell c (rDS (up c t))) 0 0 ∗ dutyTok ER (cell (up c t) (rDR c)) 0 0)
      (sendP c t dev (yAt m c (up c t))) (fun _ => iprop(owesX c (debt c 7 (t.val + 1) a) ∗ cred (tallyAt (cell c (rDS (up c t))) () NB))) := by
  unfold sendP
  refine Tri.bind (((tri_put sendV (up c t) (k0_off2_eq c t) (yAt m c (up c t))).with iprop(owesX c (debt c 7 t.val a) ∗ some_ (up c t) (rRow c) ∗ dutyTok ER (cell c (rDS (up c t))) 0 0 ∗ dutyTok ER (cell (up c t) (rDR c)) 0 0)).pre
    sep_left_comm.1) fun _ => ?_
  exact (tri_sendBlk_aux t hdev (k0_off6_eq c t) (k0_off5_eq c) (sem14 _ _ (k0_off3_eq c t)) (sem15 _ _ (k0_off4_eq c)) (fun _ => rfl) a).pre sep_left_comm.1

/-! ## The other transfers -/

theorem tri_sendMax_aux (t : Fin 7) {os : Fin 2 → ℕ} {hs : ∀ i, os i + S1x128.size i ≤ S8x128.size i} {p : Dev nD}
    {sS sR : SemLoc sig} {h₁ : (rowAt os hs).view.WordExact} {h₂ : (rowAt os hs).view.WordExact} {hsc : (rowAt os hs).view.ref.isScScratch = false}
    {h₃ : DmaTarget.Typed (p := .tc) .vmem sR (.remote (Dev.tc p : Thread nD τ) (rowAt os hs) sS hsc)}
    (hp : p = up c t) (hos : os = ![c.val, 0]) (hS : sS = csem (rAS t.castSucc)) (hR : sR = csem (rAR c))
    (hsm' : ∀ v : View sig .tc .vmem S128 .f32, v.amount sR = v.dmaCredit) :
    Tri m K c iprop(owesX c (debt c 7 7 t.val) ∗ pts c (aRow c) (tokShare t) (tab m) ∗ some_ (up c t) (aRow c) ∗ dutyTok ER (cell c (rAS t.castSucc)) 0 0 ∗ dutyTok ER (cell (up c t) (rAR c)) 0 0)
      (Prog.lift (.enqueueDma (rowAt os hs) (.remote (Dev.tc p : Thread nD τ) (rowAt os hs) sS hsc) sR h₁ h₂ h₃))
      (fun _ => iprop(owesX c (debt c 7 7 (t.val + 1)) ∗ cred (tallyAt (cell c (rAS t.castSucc)) () NA))) := by
  subst hp hos
  exact tri_send (up c t) (rAS t.castSucc) (rAR c) hS hR ((dutyAS t).symm ▸ Finset.mem_singleton_self _) ((dutyAR (up_ne c t).symm).symm ▸ Finset.mem_singleton_self _)
    (cred_a _) rfl rfl hsm' _ (debt_row c 7 7 t)
    (.of_eq (pay_aS c t 0 0).symm) ((holds_pts (up c t) (aRow c) (tab m)).trans (.of_eq (pay_aR _ _ _ _).symm))

theorem tri_sendMax (t : Fin 7) {o : Fin 1 → ℕ} {h : ∀ i, o i + S1.size i ≤ S8.size i} (ho : o = ![t.castSucc.val]) {dev : Dev nD} (hdev : dev = up c t) :
    Tri m K c iprop(owesX c (debt c 7 7 t.val) ∗ pts c (aRow c) (tokShare t) (tab m) ∗ some_ (up c t) (aRow c) ∗ dutyTok ER (cell c (rAS t.castSucc)) 0 0 ∗ dutyTok ER (cell (up c t) (rAR c)) 0 0)
      (sendMaxP c o h dev) (fun _ => iprop(owesX c (debt c 7 7 (t.val + 1)) ∗ cred (tallyAt (cell c (rAS t.castSucc)) () NA))) :=
  tri_sendMax_aux t hdev (k0_off9_eq c) (sem16 _ _ ho) (sem17 _ _ (k0_off4_eq c)) (fun _ => rfl)

theorem mayWait_none (sm : SemLoc sig) : (levAts L lv : sProp 𝕄) ⊢ MayWait (c : Thread nD τ) sm () 0 := by
  rw [MayWait_zero]; iintro -; iempintro

theorem tri_recvMax (t : Fin 7) :
    Tri m K c iprop(owesX c 0 ∗ cred (tallyAt (cell c (rAR (up c t))) () NA) ∗ atPos ER (cell c (rAR (up c t))) 0 ∅ 0) (recvMaxP c t)
      (fun _ => iprop(owesX c 0 ∗ atPos ER (cell c (rAR (up c t))) 1 ∅ 0 ∗ pts c (aRow (up c t)) fullShare (tab m))) :=
  (tri_waitDma (rAR (up c t)) 0 (sem17 _ _ (k0_off10_eq c t)) (dutyAR (up_ne c t)) (cred_a _) (mayWait_none _)).post fun _ => (by
    rw [pay_aR]
    iintro ⟨HO, Hat, -, Hp⟩
    isplitl [HO]; · iexact HO
    isplitl [Hat]; · iexact Hat
    iexact Hp)

theorem tri_recv (t : Fin 7) :
    Tri m K c iprop(owesX c 0 ∗ cred (tallyAt (cell c (rDR (dn c t))) () NB) ∗ atPos ER (cell c (rDR (dn c t))) 0 ∅ 0) (recvP c t)
      (fun _ => iprop(owesX c 0 ∗ atPos ER (cell c (rDR (dn c t))) 1 ∅ 0 ∗ holds c (rRow (dn c t)) (ybAt m (dn c t) c))) :=
  (tri_waitDma (rDR (dn c t)) 0 (sem15 _ _ ((k0_off12_eq c t).trans (by rw [dn_val]))) (dutyDR (dn_ne c t)) (cred_r _) (mayWait_none _)).post fun _ => (by
    rw [pay_dR]
    iintro ⟨HO, Hat, -, Hp⟩
    isplitl [HO]; · iexact HO
    isplitl [Hat]; · iexact Hat
    iexact Hp)

theorem tri_sent (t : Fin 7) :
    Tri m K c iprop(owesX c 0 ∗ cred (tallyAt (cell c (rDS (up c t))) () NB) ∗ atPos ER (cell c (rDS (up c t))) 0 ∅ 0) (sentP c t)
      (fun _ => iprop(owesX c 0 ∗ atPos ER (cell c (rDS (up c t))) 1 ∅ 0 ∗ some_ c (sRow (up c t)))) :=
  (tri_waitDma (rDS (up c t)) 0 (sem14 _ _ (k0_off3_eq c t)) (dutyDS (up_ne c t)) (cred_s _) (mayWait_none _)).post fun _ => (by
    rw [pay_dS]
    iintro ⟨HO, Hat, -, Hp⟩
    isplitl [HO]; · iexact HO
    isplitl [Hat]; · iexact Hat
    iexact Hp)

theorem tri_sentMax (t : Fin 7) {o : Fin 1 → ℕ} {h : ∀ i, o i + S1.size i ≤ S8.size i} (ho : o = ![t.castSucc.val]) :
    Tri m K c iprop(owesX c 0 ∗ cred (tallyAt (cell c (rAS t.castSucc)) () NA) ∗ atPos ER (cell c (rAS t.castSucc)) 0 ∅ 0) (sentMaxP c o h)
      (fun _ => iprop(owesX c 0 ∗ atPos ER (cell c (rAS t.castSucc)) 1 ∅ 0 ∗ pts c (aRow c) (tokShare t) (tab m))) :=
  (tri_waitDma (rAS t.castSucc) 0 (sem16 _ _ ho) (dutyAS t) (cred_a _) (mayWait_none _)).post fun _ => (by
    rw [pay_aS]
    iintro ⟨HO, Hat, -, Hp⟩
    isplitl [HO]; · iexact HO
    isplitl [Hat]; · iexact Hat
    iexact Hp)

/-! ## A block of the output -/

/-- The slice of the output for the block from device `s`. -/
abbrev oSl (s : Dev nD) : Memref sig .tc .vmem S512x256 .bf16 := outV.slice (oRect s) (fun _ => rfl)

theorem tri_emit (s : Dev nD) {oi : Fin 3 → ℕ} {hi : ∀ i, oi i + S1x512x256.size i ≤ S8x512x256.size i} {oo : Fin 2 → ℕ} {ho : ∀ i, oo i + S512x256.size i ≤ S4096x256.size i}
    (hoi : oi = ![s.val, 0, 0]) (hoo : oo = ![512 * s.val, 0]) {hs : (outV.access (Rect.unit (s := S4096x256) oo S512x256.size ho)).Stores Finset.univ} (r q : F .f32) (v : FVec F S512x256 .bf16) :
    Tri m K c iprop(holds c (rRow s) v ∗ some_ c (oSl s)) (emitP oi hi oo ho outV hs r q) (fun _ => iprop(holds c (rRow s) v ∗ holds c (oSl s) (quantBlk r q v))) := by
  subst hoi hoo
  unfold emitP
  refine Tri.bind ((tri_load_sq (hq := squeezes_S1x512x256_S512x256) shapeCasts_S1x512x256_S512x256).with _) fun y => ?_
  refine (Tri.pure (p := shapeCast S512x256 y shapeCasts_S1x512x256_S512x256 = v) fun hy => ?_).pre sep_assoc.1
  rw [hy]
  refine Tri.pre Laws.sep_comm.1 (Tri.bind (tri_peek_slice.with _) fun _ => ?_)
  exact (tri_store_slice.with _).post fun _ => Laws.sep_comm.1

end Cert.KernelIdeal.A2A

end
-- ==== Proof.Blocks.lean ====
/- Families over the eight devices taken around the ring from one of them, and the buffers cut into their eight blocks. -/
module

public import proofs.«01_k».proof.Proof.Comm

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Around the ring -/

theorem up_inj (c : Dev nD) : Function.Injective (up c) := by revert c; decide
theorem dn_inj (c : Dev nD) : Function.Injective (dn c) := by revert c; decide
theorem up_map (c : Dev nD) : Finset.univ.map ⟨up c, up_inj c⟩ = Finset.univ.erase c := by revert c; decide
theorem dn_map (c : Dev nD) : Finset.univ.map ⟨dn c, dn_inj c⟩ = Finset.univ.erase c := by revert c; decide
theorem cast_map : Finset.univ.map ⟨Fin.castSucc (n := 7), Fin.castSucc_injective 7⟩ = (Finset.univ : Finset (Fin 8)).erase 7 := by decide

section Ring
variable (Φ : Dev nD → sProp (MT nD τ sig Unit (Elt F) ℕ UU ℕ))

theorem erase_up (c : Dev nD) : bigSep (Finset.univ.erase c) Φ = bigSep Finset.univ (fun t : Fin 7 => Φ (up c t)) := by
  rw [← up_map, bigSep_map]; rfl
theorem rot_up (c : Dev nD) : bigSep Finset.univ Φ = iprop(Φ c ∗ bigSep Finset.univ (fun t : Fin 7 => Φ (up c t))) := by
  rw [← erase_up]; exact BI.bigSep_erase (Finset.mem_univ c)
theorem rot_dn (c : Dev nD) : bigSep Finset.univ Φ = iprop(Φ c ∗ bigSep Finset.univ (fun t : Fin 7 => Φ (dn c t))) := by
  rw [show bigSep Finset.univ (fun t : Fin 7 => Φ (dn c t)) = bigSep (Finset.univ.erase c) Φ from by rw [← dn_map, bigSep_map]; rfl]
  exact BI.bigSep_erase (Finset.mem_univ c)
theorem rot_last : bigSep Finset.univ Φ = iprop(Φ 7 ∗ bigSep Finset.univ (fun t : Fin 7 => Φ t.castSucc)) := by
  rw [show bigSep Finset.univ (fun t : Fin 7 => Φ t.castSucc) = bigSep ((Finset.univ : Finset (Fin 8)).erase 7) Φ from by rw [← cast_map, bigSep_map]; rfl]
  exact BI.bigSep_erase (Finset.mem_univ _)

theorem wDev_inj (c : Dev nD) (r : Fin 2) : Function.Injective (fun k : Fin 4 => wDev c k r.val) := by revert c r; decide
theorem wDev_union (c : Dev nD) : (Finset.univ : Finset (Dev nD)) = Finset.univ.map ⟨_, wDev_inj c 0⟩ ∪ Finset.univ.map ⟨_, wDev_inj c 1⟩ := by revert c; decide
theorem wDev_disj (c : Dev nD) : Disjoint (Finset.univ.map ⟨_, wDev_inj c 0⟩) (Finset.univ.map ⟨_, wDev_inj c 1⟩) := by revert c; decide
/-- The eight chunks by the weight buffers that fetch them. -/
theorem rot_w (c : Dev nD) : bigSep Finset.univ Φ = bigSep Finset.univ (fun k : Fin 4 => iprop(Φ (wDev c k 0) ∗ Φ (wDev c k 1))) := by
  rw [bigSep_sep']
  conv_lhs => rw [wDev_union c]
  rw [BI.bigSep_union (wDev_disj c), bigSep_map, bigSep_map]
  rfl
end Ring

/-! ## Blocks -/

theorem blk_disj : ∀ b b' : Dev nD, b ≠ b' → Disjoint (Rect.unit (s := S8x512x256) ![b.val, 0, 0] S1x512x256.size (blk_inb b)).set (Rect.unit (s := S8x512x256) ![b'.val, 0, 0] S1x512x256.size (blk_inb b')).set :=
  Ring.lead_disjoint (s := S8x512x256) 0 1 (fun b : Fin 8 => ![b.val, 0, 0]) S1x512x256.size blk_inb (fun b => (Nat.one_mul _).symm) rfl
theorem blk_cover : Finset.univ.biUnion (fun b : Dev nD => (Rect.unit (s := S8x512x256) ![b.val, 0, 0] S1x512x256.size (blk_inb b)).set) = Finset.univ :=
  Ring.lead_cover (s := S8x512x256) 0 1 (fun b : Fin 8 => ![b.val, 0, 0]) S1x512x256.size blk_inb (fun b => (Nat.one_mul _).symm) (by decide) rfl (by decide) rfl
theorem row_disj : ∀ b b' : Dev nD, b ≠ b' → Disjoint (Rect.unit (s := S8x128) ![b.val, 0] S1x128.size (row_inb b)).set (Rect.unit (s := S8x128) ![b'.val, 0] S1x128.size (row_inb b')).set :=
  Ring.lead_disjoint (s := S8x128) 0 1 (fun b : Fin 8 => ![b.val, 0]) S1x128.size row_inb (fun b => (Nat.one_mul _).symm) rfl
theorem row_cover : Finset.univ.biUnion (fun b : Dev nD => (Rect.unit (s := S8x128) ![b.val, 0] S1x128.size (row_inb b)).set) = Finset.univ :=
  Ring.lead_cover (s := S8x128) 0 1 (fun b : Fin 8 => ![b.val, 0]) S1x128.size row_inb (fun b => (Nat.one_mul _).symm) (by decide) rfl (by decide) rfl
theorem col_disj : ∀ b b' : Dev nD, b ≠ b' → Disjoint (Rect.unit (s := S4096x2048) ![0, 256 * b.val] S4096x256.size (col_inb b)).set (Rect.unit (s := S4096x2048) ![0, 256 * b'.val] S4096x256.size (col_inb b')).set :=
  Ring.lead_disjoint (s := S4096x2048) 1 256 (fun b : Fin 8 => ![0, 256 * b.val]) S4096x256.size col_inb (fun b => rfl) rfl
theorem col_cover : Finset.univ.biUnion (fun b : Dev nD => (Rect.unit (s := S4096x2048) ![0, 256 * b.val] S4096x256.size (col_inb b)).set) = Finset.univ :=
  Ring.lead_cover (s := S4096x2048) 1 256 (fun b : Fin 8 => ![0, 256 * b.val]) S4096x256.size col_inb (fun b => rfl) (by decide) rfl (by decide) rfl
theorem oRect_disj : ∀ b b' : Dev nD, b ≠ b' → Disjoint (oRect b).set (oRect b').set :=
  Ring.lead_disjoint (s := S4096x256) 0 512 (fun b : Fin 8 => ![512 * b.val, 0]) S512x256.size out_inb (fun b => rfl) rfl
theorem oRect_cover : Finset.univ.biUnion (fun b : Dev nD => (oRect b).set) = Finset.univ :=
  Ring.lead_cover (s := S4096x256) 0 512 (fun b : Fin 8 => ![512 * b.val, 0]) S512x256.size out_inb (fun b => rfl) (by decide) rfl (by decide) rfl

section Cut
variable {sp : Space} {s : Shape} {e : EltTy} (d : Dev nD)

omit [FloatOps F] in
/-- A memref's elements by what its set is. -/
theorem pts_set {M : Memref sig .tc sp s e} {S : Finset (Idx (M.view.loc (d : Thread nD τ)))} (h : M.view.set = S) (q : PosShare TreeShare) (f : Buf (Elt F) (M.view.loc (d : Thread nD τ))) :
    (pts d M q f : sProp 𝕄) = (M.view.loc (d : Thread nD τ) ↦[S]{q} f) := by subst h; rfl

omit [FloatOps F] in
/-- A buffer held whole is held block by block. -/
theorem cut_pts {M : Memref sig .tc sp s e} (hM : M.view.set = Finset.univ) {I : Dev nD → Finset (Idx (M.view.loc (d : Thread nD τ)))}
    (hd : ∀ b b', b ≠ b' → Disjoint (I b) (I b')) (hc : Finset.univ.biUnion I = Finset.univ) (q : PosShare TreeShare) (f : Buf (Elt F) (M.view.loc (d : Thread nD τ))) :
    (pts d M q f : sProp 𝕄) = bigSep Finset.univ (fun b => M.view.loc (d : Thread nD τ) ↦[I b]{q} f) := by
  rw [pts_set d hM]; exact Ring.pointsTo_blocks I hd hc f

variable (q : PosShare TreeShare)

omit [FloatOps F] in
theorem cut_recv (f : Buf (Elt F) (recvV.view.loc (d : Thread nD τ))) : (pts d recvV q f : sProp 𝕄) = bigSep Finset.univ (fun b => pts d (rRow b) q f) :=
  (cut_pts d (View.set_whole _) blk_disj blk_cover q f).trans (bigSep_congr fun b _ =>
    (pts_set d (M := rRow b) ((Memref.set_view_squeeze _ squeezes_S1x512x256_S512x256).trans (View.set_slice_whole _ _)) q f).symm)
omit [FloatOps F] in
theorem cut_send (f : Buf (Elt F) (sendV.view.loc (d : Thread nD τ))) : (pts d sendV q f : sProp 𝕄) = bigSep Finset.univ (fun b => pts d (sRow b) q f) :=
  (cut_pts d (View.set_whole _) blk_disj blk_cover q f).trans (bigSep_congr fun b _ =>
    (pts_set d (M := sRow b) ((Memref.set_view_squeeze _ squeezes_S1x512x256_S512x256).trans (View.set_slice_whole _ _)) q f).symm)
omit [FloatOps F] in
theorem cut_amax (f : Buf (Elt F) (amaxV.view.loc (d : Thread nD τ))) : (pts d amaxV q f : sProp 𝕄) = bigSep Finset.univ (fun b => pts d (aRow b) q f) :=
  (cut_pts d (View.set_whole _) row_disj row_cover q f).trans (bigSep_congr fun b _ =>
    (pts_set d (M := aRow b) ((Memref.set_view_squeeze _ squeezes_S1x128_S128).trans (View.set_slice_whole _ _)) q f).symm)
omit [FloatOps F] in
theorem cut_w (f : Buf (Elt F) (wH.view.loc (d : Thread nD τ))) : (pts d wH q f : sProp 𝕄) = bigSep Finset.univ (fun b => pts d (wCol b) q f) :=
  (cut_pts d (View.set_whole _) col_disj col_cover q f).trans (bigSep_congr fun b _ => (pts_set d (M := wCol b) (View.set_slice_whole _ _) q f).symm)
omit [FloatOps F] in
theorem cut_out (f : Buf (Elt F) (outV.view.loc (d : Thread nD τ))) : (pts d outV q f : sProp 𝕄) = bigSep Finset.univ (fun b => pts d (oSl b) q f) :=
  (cut_pts d (View.set_whole _) oRect_disj oRect_cover q f).trans (bigSep_congr fun b _ => (pts_set d (M := oSl b) (View.set_slice_whole _ _) q f).symm)

omit [FloatOps F] in
theorem split_recv : (some_ d recvV : sProp 𝕄) ⊢ bigSep Finset.univ (fun b => some_ d (rRow b)) := by
  conv_lhs => unfold some_
  iintro ⟨%f, H⟩
  iapply (show (pts d recvV fullShare f : sProp 𝕄) ⊢ bigSep Finset.univ (fun b => some_ d (rRow b)) from (Entails.of_eq (cut_recv d fullShare f)).trans (bigSep_mono fun b _ => pts_some d (rRow b) f)); iexact H
omit [FloatOps F] in
theorem split_send : (some_ d sendV : sProp 𝕄) ⊢ bigSep Finset.univ (fun b => some_ d (sRow b)) := by
  conv_lhs => unfold some_
  iintro ⟨%f, H⟩
  iapply (show (pts d sendV fullShare f : sProp 𝕄) ⊢ bigSep Finset.univ (fun b => some_ d (sRow b)) from (Entails.of_eq (cut_send d fullShare f)).trans (bigSep_mono fun b _ => pts_some d (sRow b) f)); iexact H
omit [FloatOps F] in
theorem split_amax : (some_ d amaxV : sProp 𝕄) ⊢ bigSep Finset.univ (fun b => some_ d (aRow b)) := by
  conv_lhs => unfold some_
  iintro ⟨%f, H⟩
  iapply (show (pts d amaxV fullShare f : sProp 𝕄) ⊢ bigSep Finset.univ (fun b => some_ d (aRow b)) from (Entails.of_eq (cut_amax d fullShare f)).trans (bigSep_mono fun b _ => pts_some d (aRow b) f)); iexact H
omit [FloatOps F] in
theorem split_out : (some_ d outV : sProp 𝕄) ⊢ bigSep Finset.univ (fun b => some_ d (oSl b)) := by
  conv_lhs => unfold some_
  iintro ⟨%f, H⟩
  iapply (show (pts d outV fullShare f : sProp 𝕄) ⊢ bigSep Finset.univ (fun b => some_ d (oSl b)) from (Entails.of_eq (cut_out d fullShare f)).trans (bigSep_mono fun b _ => pts_some d (oSl b) f)); iexact H

/-- Blocks held at contents of their own are a buffer held whole. -/
theorem join_some {M : Memref sig .tc sp s e} (hM : M.view.set = Finset.univ) {I : Dev nD → Finset (Idx (M.view.loc (d : Thread nD τ)))}
    (hd : ∀ b b', b ≠ b' → Disjoint (I b) (I b')) (hc : Finset.univ.biUnion I = Finset.univ) (f₀ : Buf (Elt F) (M.view.loc (d : Thread nD τ))) :
    (bigSep Finset.univ (fun b => iprop(∃ f, M.view.loc (d : Thread nD τ) ↦[I b]{fullShare} f)) : sProp 𝕄) ⊢ some_ d M := by
  refine (Ring.pointsTo_blocks_join_exists I hd hc f₀).trans ?_
  unfold some_
  iintro ⟨%g, H⟩
  iexists g
  iapply (Entails.of_eq (pts_set d hM fullShare g).symm); iexact H

omit [FloatOps F] in
theorem some_set {M : Memref sig .tc sp s e} {S : Finset (Idx (M.view.loc (d : Thread nD τ)))} (h : M.view.set = S) :
    (some_ d M : sProp 𝕄) = iprop(∃ f, M.view.loc (d : Thread nD τ) ↦[S]{fullShare} f) := by subst h; rfl

theorem join_recv (m : Mem0 F) : (bigSep Finset.univ (fun b => some_ d (rRow b)) : sProp 𝕄) ⊢ some_ d recvV := by
  rw [bigSep_congr fun b _ => some_set d (M := rRow b) ((Memref.set_view_squeeze _ squeezes_S1x512x256_S512x256).trans (View.set_slice_whole _ _))]
  exact join_some d (View.set_whole _) blk_disj blk_cover (m _)
theorem join_send (m : Mem0 F) : (bigSep Finset.univ (fun b => some_ d (sRow b)) : sProp 𝕄) ⊢ some_ d sendV := by
  rw [bigSep_congr fun b _ => some_set d (M := sRow b) ((Memref.set_view_squeeze _ squeezes_S1x512x256_S512x256).trans (View.set_slice_whole _ _))]
  exact join_some d (View.set_whole _) blk_disj blk_cover (m _)
end Cut

/-! ## A row of the table, a block of the output -/

section At
variable (m : Mem0 F)

theorem unit_emb_val {s : Shape} {off size : Fin s.rank → ℕ} (inb : ∀ a, off a + size a ≤ s.size a) (i : (Rect.unit off size inb).shape.Idx) (a : Fin s.rank) :
    ((Rect.unit off size inb).emb i a).val = off a + (i a).val := by
  show off a + 1 * (i a).val = _; rw [Nat.one_mul]

/-- Row `s` of the table is device `s`'s maximum throughout. -/
theorem read_row (s : Dev nD) : (aRow s).view.read (Elt F) (tab m) = (broadcast S128 (maxAt m s) : Vec F S128 .f32) := by
  funext i
  generalize hj : (Shape.reshapeEquiv (show S128.numel = S1x128.numel from by decide)) i = j
  have h : (aRow s).view.read (Elt F) (tab m) i = tab m ((Rect.unit (s := S8x128) ![s.val, 0] S1x128.size (row_inb s)).emb j) := by rw [← hj]; rfl
  rw [h]
  show maxAt m _ = maxAt m s
  congr 1
  refine Fin.ext ?_
  rw [unit_emb_val]
  have : (j 0).val < 1 := (j 0).isLt
  show s.val + (j 0).val = s.val
  omega

/-- Block `s` of the output is the block from device `s`. -/
theorem read_out (c s : Dev nD) : (oSl s).view.read (Elt F) (outAt m c) = outBlk m c s := by
  funext i
  show outBlk m c (rowDev ((oRect s).emb i 0)) _ = _
  have h0 : ((oRect s).emb i 0).val = 512 * s.val + (i 0).val := unit_emb_val _ _ _
  have h1 : ((oRect s).emb i 1).val = 0 + (i 1).val := unit_emb_val _ _ _
  have hi : (i 0).val < 512 := (i 0).isLt
  have hd : rowDev ((oRect s).emb i 0) = s := Fin.ext (by show ((oRect s).emb i 0).val / 512 = _; rw [h0]; omega)
  rw [hd]
  congr 1
  funext a
  match a with
  | ⟨0, _⟩ => exact Fin.ext (by show ((oRect s).emb i 0).val % 512 = _; rw [h0]; show _ = (i 0).val; omega)
  | ⟨1, _⟩ => exact Fin.ext (by show ((oRect s).emb i 1).val = _; rw [h1]; exact Nat.zero_add _)
end At

end Cert.KernelIdeal.A2A

end
-- ==== Proof.Body.lean ====
/- The phases of the body on device `c`, each as a triple: the barrier, the fetches, the seven rounds that send, the
   device's own block, the rows of maxima out and in, the blocks of the output, the departures awaited. -/
module

public import proofs.«01_k».proof.Proof.Blocks

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable {m : Mem0 F} {K : Dev nD × Role → ℕ} {c : Dev nD}

/-- Seven steps of one form, and what comes after them. -/
theorem Tri.sevenK {β : Type} {f : Fin 7 → KProg F PUnit} {A : ℕ → sProp 𝕄} {R S : Fin 7 → sProp 𝕄} {k : KProg F β} {Q : β → sProp 𝕄}
    (h : ∀ t : Fin 7, Tri m K c iprop(A t.val ∗ R t) (f t) (fun _ => iprop(A (t.val + 1) ∗ S t)))
    (hk : Tri m K c iprop(A 7 ∗ bigSep Finset.univ S) k Q) :
    Tri m K c iprop(A 0 ∗ bigSep Finset.univ R) (do f 0; f 1; f 2; f 3; f 4; f 5; f 6; k) Q := by
  rw [show (do f 0; f 1; f 2; f 3; f 4; f 5; f 6; k) = (do f 0; f 1; f 2; f 3; f 4; f 5; f 6) >>= fun _ => k from by simp only [bind_assoc]]
  exact Tri.bind (Tri.seven h) fun _ => hk

/-! ## The barrier -/

theorem tri_barrier :
    Tri m K c iprop(owesX c (debt c 0 0 0) ∗ bigSep Finset.univ (fun t : Fin 7 => iprop(dutyTok ER (cell (up c t) rBar) 0 c ∗ some_ c (rRow (up c t)) ∗ some_ c (aRow (up c t))))
        ∗ cred (tallyAt (cell c rBar) () 7) ∗ atPos ER (cell c rBar) 0 ∅ 0) (barrierP c)
      (fun _ => iprop(owesX c (debt c 7 0 0) ∗ atPos ER (cell c rBar) 1 ∅ 0 ∗ bigSep Finset.univ (fun t : Fin 7 => some_ (up c t) (rRow c)) ∗ bigSep Finset.univ (fun t : Fin 7 => some_ (up c t) (aRow c)))) := by
  unfold barrierP
  rw [show (⟨k0_dev1 c, k0_dev1_lt c⟩ : Dev nD) = up c 0 from Fin.ext (k0_dev1_eq c), show (⟨k0_dev2 c, k0_dev2_lt c⟩ : Dev nD) = up c 1 from Fin.ext (k0_dev2_eq c),
    show (⟨k0_dev3 c, k0_dev3_lt c⟩ : Dev nD) = up c 2 from Fin.ext (k0_dev3_eq c), show (⟨k0_dev4 c, k0_dev4_lt c⟩ : Dev nD) = up c 3 from Fin.ext (k0_dev4_eq c),
    show (⟨k0_dev5 c, k0_dev5_lt c⟩ : Dev nD) = up c 4 from Fin.ext (k0_dev5_eq c), show (⟨k0_dev6 c, k0_dev6_lt c⟩ : Dev nD) = up c 5 from Fin.ext (k0_dev6_eq c),
    show (⟨k0_dev7 c, k0_dev7_lt c⟩ : Dev nD) = up c 6 from Fin.ext (k0_dev7_eq c)]
  have key : ∀ t : Fin 7, Tri m K c
      iprop(((cred (tallyAt (cell c rBar) () 7) ∗ atPos ER (cell c rBar) 0 ∅ 0) ∗ owesX c (debt c t.val 0 0)) ∗ (dutyTok ER (cell (up c t) rBar) 0 c ∗ some_ c (rRow (up c t)) ∗ some_ c (aRow (up c t))))
      (semSignalWord (up c t) barA.sem 1#32)
      (fun _ => iprop(((cred (tallyAt (cell c rBar) () 7) ∗ atPos ER (cell c rBar) 0 ∅ 0) ∗ owesX c (debt c (t.val + 1) 0 0)) ∗ emp)) := fun t =>
    ((tri_signal t (up c t) rfl (up_ne c t).symm 0 0).with iprop(cred (tallyAt (cell c rBar) () 7) ∗ atPos ER (cell c rBar) 0 ∅ 0)).mono
      (by iintro ⟨⟨H1, H2⟩, H3⟩; iframe) (fun _ => by iintro ⟨H1, H2⟩; iframe)
  refine (Tri.sevenK (f := fun t => semSignalWord (up c t) barA.sem 1#32)
    (A := fun n => iprop((cred (tallyAt (cell c rBar) () 7) ∗ atPos ER (cell c rBar) 0 ∅ 0) ∗ owesX c (debt c n 0 0))) (S := fun _ => iprop(emp))
    (R := fun t => iprop(dutyTok ER (cell (up c t) rBar) 0 c ∗ some_ c (rRow (up c t)) ∗ some_ c (aRow (up c t)))) key ?_).pre ?_
  · refine (tri_barWait 0 0).mono ?_ fun _ => ?_
    · iintro ⟨⟨⟨H1, H2⟩, H3⟩, -⟩; iframe
    · rw [erase_up, bigSep_sep']
  · iintro ⟨H1, H2, H3⟩; iframe

/-! ## The fetches -/

theorem tri_loadP :
    Tri m K c iprop(owesX c (debt c 7 0 0) ∗ (pts c xH fullShare (m ((c : Thread nD τ).loc main_arg0)) ∗ some_ c xV ∗ dutyTok ER (cell c rX) 0 0 ∗ atPos ER (cell c rX) 0 ∅ 0 ∗ some_ c xbV)
        ∗ wst m c 0 0 ∗ wst m c 1 0 ∗ wst m c 2 0) (loadP c)
      (fun _ => iprop(owesX c (debt c 7 0 0) ∗ holds c xbV (xbAt m c) ∗ (pts c xH fullShare (m ((c : Thread nD τ).loc main_arg0)) ∗ some_ c xV ∗ atPos ER (cell c rX) 1 ∅ 0)
        ∗ wst m c 0 1 ∗ wst m c 1 1 ∗ wst m c 2 1)) := by
  unfold loadP
  refine tri_reached rX ?_
  refine Tri.bind (((tri_copy rX 0 (q := fullShare) (src := xH) (dst := xV) (fs := m ((c : Thread nD τ).loc main_arg0)) rfl (dutyX.symm ▸ Finset.mem_singleton_self _) cred_x (fun _ => rfl)
    (.of_eq (pay_x c 0 0).symm)).with iprop(owesX c (debt c 7 0 0) ∗ atPos ER (cell c rX) 0 ∅ 0 ∗ some_ c xbV ∗ wst m c 0 0 ∗ wst m c 1 0 ∗ wst m c 2 0)).pre ?_) fun _ => ?_
  · iintro ⟨⟨H1, ⟨H2, H3, H4, H5, H6⟩, H7⟩, H8⟩; iframe
  refine Tri.bind (((tri_fetch0 0 0 rfl rfl).with iprop(cred (tallyAt (cell c rX) () (amt (some rX))) ∗ owesX c (debt c 7 0 0) ∗ atPos ER (cell c rX) 0 ∅ 0 ∗ some_ c xbV ∗ wst m c 1 0 ∗ wst m c 2 0)).pre ?_) fun _ => ?_
  · iintro ⟨H1, H2, H3, H4, H5, H6⟩; iframe
  refine Tri.bind (((tri_fetch0 1 1 rfl rfl).with iprop(cred (tallyAt (cell c rX) () (amt (some rX))) ∗ owesX c (debt c 7 0 0) ∗ atPos ER (cell c rX) 0 ∅ 0 ∗ some_ c xbV ∗ wst m c 0 1 ∗ wst m c 2 0)).pre ?_) fun _ => ?_
  · iintro ⟨H1, H2, H3, H4, H5, H6, H7⟩; iframe
  refine Tri.bind (((tri_fetch0 2 2 rfl rfl).with iprop(cred (tallyAt (cell c rX) () (amt (some rX))) ∗ owesX c (debt c 7 0 0) ∗ atPos ER (cell c rX) 0 ∅ 0 ∗ some_ c xbV ∗ wst m c 0 1 ∗ wst m c 1 1)).pre ?_) fun _ => ?_
  · iintro ⟨H1, H2, H3, H4, H5, H6, H7⟩; iframe
  refine Tri.bind (((tri_waitDma rX 0 rfl dutyX cred_x (mayWait_low c _ (by rw [roleOf_csem]; rfl) 7 0 0)).with iprop(some_ c xbV ∗ wst m c 0 1 ∗ wst m c 1 1 ∗ wst m c 2 1)).pre ?_) fun _ => ?_
  · iintro ⟨H1, H2, H3, H4, H5, H6, H7⟩; iframe
  rw [pay_x]
  refine Tri.bind (((tri_load_full (M := xV) (v := xAt m c) (by decide) _).with
    iprop(owesX c (debt c 7 0 0) ∗ atPos ER (cell c rX) 1 ∅ 0 ∗ pts c xH fullShare (m ((c : Thread nD τ).loc main_arg0)) ∗ some_ c xbV ∗ wst m c 0 1 ∗ wst m c 1 1 ∗ wst m c 2 1)).pre ?_) fun x => ?_
  · iintro ⟨⟨H1, H2, -, H3, H4⟩, H5⟩; iframe
  refine (Tri.pure (p := x = xAt m c) fun hx => ?_).pre sep_assoc.1
  subst hx
  refine Tri.bind (((tri_peek (M := xbV)).with
    iprop(holds c xV (xAt m c) ∗ owesX c (debt c 7 0 0) ∗ atPos ER (cell c rX) 1 ∅ 0 ∗ pts c xH fullShare (m ((c : Thread nD τ).loc main_arg0)) ∗ wst m c 0 1 ∗ wst m c 1 1 ∗ wst m c 2 1)).pre ?_) fun _ => ?_
  · iintro ⟨H1, H2, H3, H4, H5, H6⟩; iframe
  rw [shapeCast_self]
  refine ((tri_store_full (M := xbV) (by decide) _).with
    iprop(holds c xV (xAt m c) ∗ owesX c (debt c 7 0 0) ∗ atPos ER (cell c rX) 1 ∅ 0 ∗ pts c xH fullShare (m ((c : Thread nD τ).loc main_arg0)) ∗ wst m c 0 1 ∗ wst m c 1 1 ∗ wst m c 2 1)).post fun _ => ?_
  iintro ⟨H1, H2, H3, H4, H5, H6, H7, H8⟩
  isplitl [H3]; · iexact H3
  isplitl [H1]; · iexact H1
  isplitl [H2 H4 H5]
  · isplitl [H5]; · iexact H5
    isplitl [H2]; · iapply (holds_some c xV (xAt m c)); iexact H2
    iexact H4
  iframe

/-! ## The rounds -/

/-- What the send of round `t` needs. -/
def sendRes (c : Dev nD) (t : Fin 7) : sProp 𝕄 :=
  iprop(some_ c (sRow (up c t)) ∗ some_ (up c t) (rRow c) ∗ dutyTok ER (cell c (rDS (up c t))) 0 0 ∗ dutyTok ER (cell (up c t) (rDR c)) 0 0)
/-- What tells that the block of round `t` has gone. -/
def sentCr (c : Dev nD) (t : Fin 7) : sProp 𝕄 := cred (tallyAt (cell c (rDS (up c t))) () NB)

theorem tri_late (t : Fin 7) {wb : Memref sig .tc .vmem S4096x256 .f32} {ws : DmaSem sig} {h : wb.view.WordExact} {dev : Dev nD} (hdev : dev = up c t) {W W' : sProp 𝕄}
    (hp : Tri m K c iprop(W ∗ owesX c (debt c 7 t.val 0) ∗ holds c xbV (xbAt m c)) (prodP c t.castSucc wb ws h)
      (fun y => iprop(⌜y = yAt m c (up c t)⌝ ∗ W' ∗ owesX c (debt c 7 t.val 0) ∗ holds c xbV (xbAt m c)))) :
    Tri m K c iprop((owesX c (debt c 7 t.val 0) ∗ holds c xbV (xbAt m c)) ∗ sendRes c t ∗ W) (lateP c t wb ws h dev (maxUpto m c t.val))
      (fun a => iprop(⌜a = maxUpto m c (t.val + 1)⌝ ∗ (owesX c (debt c 7 (t.val + 1) 0) ∗ holds c xbV (xbAt m c)) ∗ sentCr c t ∗ W')) := by
  unfold lateP sendRes sentCr
  refine Tri.bind ((hp.with iprop(some_ c (sRow (up c t)) ∗ some_ (up c t) (rRow c) ∗ dutyTok ER (cell c (rDS (up c t))) 0 0 ∗ dutyTok ER (cell (up c t) (rDR c)) 0 0)).pre ?_) fun y => ?_
  · iintro ⟨⟨H1, H2⟩, H3, H4⟩; iframe
  refine (Tri.pure (p := y = yAt m c (up c t)) fun hy => ?_).pre sep_assoc.1
  subst hy
  refine Tri.bind (((tri_sendBlk t hdev 0).with iprop(holds c xbV (xbAt m c) ∗ W')).pre ?_) fun _ => ?_
  · iintro ⟨⟨H1, H2, H3⟩, H4, H5, H6, H7⟩; iframe
  refine Tri.ret.pre ?_
  iintro ⟨⟨H1, H2⟩, H3, H4⟩
  isplitr; · ipureintro; rfl
  iframe

theorem tri_round (t : Fin 7) (t' : Fin 8) {wb wb' : Memref sig .tc .vmem S4096x256 .f32} {ws ws' : DmaSem sig} {h : wb.view.WordExact} {h' : wb'.view.WordExact}
    {dev : Dev nD} (hdev : dev = up c t) {W W' X X' : sProp 𝕄} (hf : Tri m K c X (fetchP c t' wb' ws' h') (fun _ => X'))
    (hp : Tri m K c iprop(W ∗ owesX c (debt c 7 t.val 0) ∗ holds c xbV (xbAt m c)) (prodP c t.castSucc wb ws h)
      (fun y => iprop(⌜y = yAt m c (up c t)⌝ ∗ W' ∗ owesX c (debt c 7 t.val 0) ∗ holds c xbV (xbAt m c)))) :
    Tri m K c iprop((owesX c (debt c 7 t.val 0) ∗ holds c xbV (xbAt m c)) ∗ sendRes c t ∗ W ∗ X) (roundP c t t' wb ws h wb' ws' h' dev (maxUpto m c t.val))
      (fun a => iprop(⌜a = maxUpto m c (t.val + 1)⌝ ∗ (owesX c (debt c 7 (t.val + 1) 0) ∗ holds c xbV (xbAt m c)) ∗ sentCr c t ∗ W' ∗ X')) := by
  show Tri m K c _ (fetchP c t' wb' ws' h' >>= fun _ => lateP c t wb ws h dev (maxUpto m c t.val)) _
  refine Tri.bind ((hf.with iprop((owesX c (debt c 7 t.val 0) ∗ holds c xbV (xbAt m c)) ∗ sendRes c t ∗ W)).pre ?_) fun _ => ?_
  · iintro ⟨H1, H2, H3, H4⟩; iframe
  refine ((tri_late t hdev hp).with X').mono ?_ fun a => ?_
  · iintro ⟨H1, H2⟩; iframe
  · iintro ⟨⟨Ha, H1, H2, H3⟩, H4⟩
    isplitl [Ha]; · iexact Ha
    iframe

theorem tri_prod0_up (k : Fin 4) (t : Fin 7) (hw : wDev c k 0 = up c t) {ws : DmaSem sig} (hws : SemLoc.dma ws = csem (rW k)) {h : (wbuf k).view.WordExact} :
    Tri m K c iprop(wst m c k 1 ∗ owesX c (debt c 7 t.val 0) ∗ holds c xbV (xbAt m c)) (prodP c t.castSucc (wbuf k) ws h)
      (fun y => iprop(⌜y = yAt m c (up c t)⌝ ∗ wst m c k 2 ∗ owesX c (debt c 7 t.val 0) ∗ holds c xbV (xbAt m c))) := by
  rw [← hw]; exact tri_prod0 k t.castSucc hws 7 t.val 0
theorem tri_prod1_up (k : Fin 4) (t : Fin 7) (hw : wDev c k 1 = up c t) {ws : DmaSem sig} (hws : SemLoc.dma ws = csem (rW k)) {h : (wbuf k).view.WordExact} :
    Tri m K c iprop(wst m c k 3 ∗ owesX c (debt c 7 t.val 0) ∗ holds c xbV (xbAt m c)) (prodP c t.castSucc (wbuf k) ws h)
      (fun y => iprop(⌜y = yAt m c (up c t)⌝ ∗ wst m c k 4 ∗ owesX c (debt c 7 t.val 0) ∗ holds c xbV (xbAt m c))) := by
  rw [← hw]; exact tri_prod1 k t.castSucc hws 7 t.val 0

theorem pr_eight (c : Dev nD) : pr c 8 = c := by revert c; decide

set_option maxHeartbeats 4000000 in
theorem tri_rounds :
    Tri m K c iprop((owesX c (debt c 7 0 0) ∗ holds c xbV (xbAt m c)) ∗ bigSep Finset.univ (fun t => sendRes c t) ∗ wst m c 0 1 ∗ wst m c 1 1 ∗ wst m c 2 1 ∗ wst m c 3 0) (roundsP c)
      (fun a => iprop(⌜a = maxUpto m c 7⌝ ∗ (owesX c (debt c 7 7 0) ∗ holds c xbV (xbAt m c)) ∗ bigSep Finset.univ (fun t => sentCr c t) ∗ wst m c 0 4 ∗ wst m c 1 4 ∗ wst m c 2 4 ∗ wst m c 3 3)) := by
  have e : ∀ Φ : Fin 7 → sProp 𝕄, bigSep Finset.univ Φ = iprop(Φ 0 ∗ Φ 1 ∗ Φ 2 ∗ Φ 3 ∗ Φ 4 ∗ Φ 5 ∗ Φ 6) :=
    bigSep_univ_eq_bigSepL [0, 1, 2, 3, 4, 5, 6] (by decide) (by decide)
  rw [e, e]
  unfold roundsP
  refine Tri.bind (((tri_round (m := m) (K := K) 0 3 (Fin.ext (k0_dev8_eq c)) (tri_fetch0 3 3 rfl rfl) (tri_prod0_up 0 0 rfl rfl)).with
    iprop((sendRes c 1 ∗ sendRes c 2 ∗ sendRes c 3 ∗ sendRes c 4 ∗ sendRes c 5 ∗ sendRes c 6) ∗ wst m c 1 1 ∗ wst m c 2 1)).pre ?_) fun a => ?_
  · iintro ⟨H1, ⟨H2, H3⟩, H4, H5, H6, H7⟩; iframe; iexact H1
  refine (Tri.pure (p := a = maxUpto m c 1) fun ha => ?_).pre sep_assoc.1
  subst ha
  refine Tri.bind (((tri_round (m := m) (K := K) 1 4 (Fin.ext (k0_dev9_eq c)) (tri_fetch1 0 4 rfl rfl) (tri_prod0_up 1 1 rfl rfl)).with
    iprop(sentCr c 0 ∗ (sendRes c 2 ∗ sendRes c 3 ∗ sendRes c 4 ∗ sendRes c 5 ∗ sendRes c 6) ∗ wst m c 2 1 ∗ wst m c 3 1)).pre ?_) fun a => ?_
  · iintro ⟨⟨H1, H2, H3, H4⟩, ⟨H5, H6⟩, H7, H8⟩; iframe; iexact H1
  refine (Tri.pure (p := a = maxUpto m c 2) fun ha => ?_).pre sep_assoc.1
  subst ha
  refine Tri.bind (((tri_round (m := m) (K := K) 2 5 (Fin.ext (k0_dev10_eq c)) (tri_fetch1 1 5 rfl rfl) (tri_prod0_up 2 2 rfl rfl)).with
    iprop((sentCr c 0 ∗ sentCr c 1) ∗ (sendRes c 3 ∗ sendRes c 4 ∗ sendRes c 5 ∗ sendRes c 6) ∗ wst m c 3 1 ∗ wst m c 0 3)).pre ?_) fun a => ?_
  · iintro ⟨⟨H1, H2, H3, H4⟩, H9, ⟨H5, H6⟩, H7, H8⟩; iframe; iexact H1
  refine (Tri.pure (p := a = maxUpto m c 3) fun ha => ?_).pre sep_assoc.1
  subst ha
  refine Tri.bind (((tri_round (m := m) (K := K) 3 6 (Fin.ext (k0_dev11_eq c)) (tri_fetch1 2 6 rfl rfl) (tri_prod0_up 3 3 rfl rfl)).with
    iprop((sentCr c 0 ∗ sentCr c 1 ∗ sentCr c 2) ∗ (sendRes c 4 ∗ sendRes c 5 ∗ sendRes c 6) ∗ wst m c 0 3 ∗ wst m c 1 3)).pre ?_) fun a => ?_
  · iintro ⟨⟨H1, H2, H3, H4⟩, ⟨H9, H10⟩, ⟨H5, H6⟩, H7, H8⟩; iframe; iexact H1
  refine (Tri.pure (p := a = maxUpto m c 4) fun ha => ?_).pre sep_assoc.1
  subst ha
  refine Tri.bind (((tri_round (m := m) (K := K) 4 7 (Fin.ext (k0_dev12_eq c)) (tri_fetch1 3 7 rfl rfl) (tri_prod1_up 0 4 rfl rfl)).with
    iprop((sentCr c 0 ∗ sentCr c 1 ∗ sentCr c 2 ∗ sentCr c 3) ∗ (sendRes c 5 ∗ sendRes c 6) ∗ wst m c 1 3 ∗ wst m c 2 3)).pre ?_) fun a => ?_
  · iintro ⟨⟨H1, H2, H3, H4⟩, ⟨H9, H10, H11⟩, ⟨H5, H6⟩, H7, H8⟩; iframe; iexact H1
  refine (Tri.pure (p := a = maxUpto m c 5) fun ha => ?_).pre sep_assoc.1
  subst ha
  refine Tri.bind (((tri_late (m := m) (K := K) 5 (Fin.ext (k0_dev13_eq c)) (tri_prod1_up 1 5 rfl rfl)).with
    iprop((sentCr c 0 ∗ sentCr c 1 ∗ sentCr c 2 ∗ sentCr c 3 ∗ sentCr c 4) ∗ sendRes c 6 ∗ wst m c 2 3 ∗ wst m c 0 4 ∗ wst m c 3 3)).pre ?_) fun a => ?_
  · iintro ⟨⟨H1, H2, H3, H4⟩, ⟨H9, H10, H11, H12⟩, ⟨H5, H6⟩, H7, H8⟩; iframe; iexact H1
  refine (Tri.pure (p := a = maxUpto m c 6) fun ha => ?_).pre sep_assoc.1
  subst ha
  refine ((tri_late (m := m) (K := K) 6 (Fin.ext (k0_dev14_eq c)) (tri_prod1_up 2 6 rfl rfl)).with
    iprop((sentCr c 0 ∗ sentCr c 1 ∗ sentCr c 2 ∗ sentCr c 3 ∗ sentCr c 4 ∗ sentCr c 5) ∗ wst m c 0 4 ∗ wst m c 1 4 ∗ wst m c 3 3)).mono ?_ fun a => ?_
  · iintro ⟨⟨H1, H2, H3⟩, ⟨H9, H10, H11, H12, H13⟩, H5, H7, H8, H14⟩; iframe; iexact H1
  iintro ⟨⟨Ha, H1, H2, H3⟩, ⟨H9, H10, H11, H12, H13, H14⟩, H5, H7, H8⟩
  isplitl [Ha]; · iexact Ha
  iframe
  iexact H1

/-! ## The device's own block -/

theorem tri_own :
    Tri m K c iprop((owesX c (debt c 7 7 0) ∗ holds c xbV (xbAt m c)) ∗ wst m c 3 3 ∗ some_ c (rRow c) ∗ some_ c (aRow c)) (ownP c (maxUpto m c 7))
      (fun _ => iprop((owesX c (debt c 7 7 0) ∗ holds c xbV (xbAt m c)) ∗ wst m c 3 4 ∗ holds c (rRow c) (ybAt m c c) ∗ pts c (aRow c) fullShare (tab m))) := by
  have hd : wDev c 3 1 = c := pr_eight c
  unfold ownP
  refine Tri.bind (((tri_prod1 3 7 rfl 7 7 0).with iprop(some_ c (rRow c) ∗ some_ c (aRow c))).pre ?_) fun y => ?_
  · iintro ⟨⟨H1, H2⟩, H3, H4⟩; iframe
  refine (Tri.pure (p := y = yAt m c (wDev c 3 1)) fun hy => ?_).pre sep_assoc.1
  rw [hd] at hy
  subst hy
  refine Tri.bind (((tri_put recvV c (k0_off7_eq c) (yAt m c c)).with iprop((wst m c 3 4 ∗ owesX c (debt c 7 7 0) ∗ holds c xbV (xbAt m c)) ∗ some_ c (aRow c))).pre ?_) fun _ => ?_
  · iintro ⟨H1, H2, H3⟩; iframe
  have hrow : ∀ {o : Fin 2 → ℕ} {h : ∀ i, o i + S1x128.size i ≤ S8x128.size i} (ho : o = ![c.val, 0]) {hl : amaxV.view.LoadsAt (Rect.unit (s := S8x128) o S1x128.size h).toLoadRect}
      {hs : (amaxV.access (Rect.unit (s := S8x128) o S1x128.size h)).Stores Finset.univ} {hm : (Finset.univ : Finset (Rect.unit (s := S8x128) o S1x128.size h).shape.Idx) = Finset.univ ∨ ∀ a, (Rect.unit (s := S8x128) o S1x128.size h).stride a = 1},
      Tri m K c (some_ c (aRow c)) (do
        let _ ← Prog.lift (.load amaxV (Rect.unit (s := S8x128) o S1x128.size h).toLoadRect hl)
        Prog.lift (.store amaxV (Rect.unit (s := S8x128) o S1x128.size h) (shapeCast S1x128 (broadcast S128 (Scalar.maximumf (maxUpto m c 7) (blkMax (yAt m c c)))) shapeCasts_S128_S1x128) Finset.univ hs hm))
        (fun _ => pts c (aRow c) fullShare (tab m)) := by
    intro o h ho hl hs hm
    subst ho
    refine Tri.bind (tri_peek_sq (hq := squeezes_S1x128_S128) shapeCasts_S1x128_S128) fun _ => ?_
    refine (tri_store_sq (hq := squeezes_S1x128_S128) shapeCasts_S128_S1x128 shapeCasts_S1x128_S128).post fun _ => ?_
    have hv : (broadcast S128 (Scalar.maximumf (maxUpto m c 7) (blkMax (yAt m c c))) : Vec F S128 .f32) = (aRow c).view.read (Elt F) (tab m) := by
      rw [read_row]; unfold maxAt; show _ = broadcast S128 (Scalar.maximumf (maxUpto m c 7) (blkMax (yAt m c (pr c 8)))); rw [pr_eight]
    rw [hv]
    exact holds_pts c (aRow c) (tab m)
  refine ((hrow (k0_off8_eq c)).with iprop(holds c (rRow c) (ybAt m c c) ∗ wst m c 3 4 ∗ owesX c (debt c 7 7 0) ∗ holds c xbV (xbAt m c))).mono ?_ fun _ => ?_
  · iintro ⟨H1, H2, H3⟩
    isplitl [H3]; · iexact H3
    isplitl [H1]; · iexact H1
    iexact H2
  · iintro ⟨H1, H2, H3, H4, H5⟩; iframe

end Cert.KernelIdeal.A2A

end
-- ==== Proof.Whole.lean ====
/- The exchange of the maxima, the blocks of the output, the departures; and the whole body on device `c`. -/
module

public import proofs.«01_k».proof.Proof.Body

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable {m : Mem0 F} {K : Dev nD × Role → ℕ} {c : Dev nD}

/-! ## The rows of maxima -/

/-- What the `t`-th send of the row of maxima needs beside its share of the row. -/
def castRes (c : Dev nD) (t : Fin 7) : sProp 𝕄 :=
  iprop(some_ (up c t) (aRow c) ∗ dutyTok ER (cell c (rAS t.castSucc)) 0 0 ∗ dutyTok ER (cell (up c t) (rAR c)) 0 0)
/-- What tells that it has gone. -/
def castCr (c : Dev nD) (t : Fin 7) : sProp 𝕄 := cred (tallyAt (cell c (rAS t.castSucc)) () NA)
/-- What the wait for the `t`-th row needs, and what it leaves. -/
def rowRes (c : Dev nD) (t : Fin 7) : sProp 𝕄 := iprop(cred (tallyAt (cell c (rAR (up c t))) () NA) ∗ atPos ER (cell c (rAR (up c t))) 0 ∅ 0)
/-- The share of a row that stays when seven are lent. -/
abbrev keep : PosShare TreeShare := Transfers.shareDrop fullShare 7

omit [FloatOps F] in
theorem row_lend (j : Dev nD) (f : Vec F S8x128 .f32) :
    (pts c (aRow j) fullShare f : sProp 𝕄) = iprop(pts c (aRow j) keep f ∗ bigSep Finset.univ (fun i : Fin 7 => pts c (aRow j) (tokShare i) f)) := by
  unfold pts; exact BI.equiv_iff.mp ⟨(Transfers.pointsTo_toks fullShare 7).1, (Transfers.pointsTo_toks fullShare 7).2⟩

theorem tri_cast :
    Tri m K c iprop(owesX c (debt c 7 7 0) ∗ pts c (aRow c) fullShare (tab m) ∗ bigSep Finset.univ (fun t => castRes c t)) (castP c)
      (fun _ => iprop(owesX c 0 ∗ pts c (aRow c) keep (tab m) ∗ bigSep Finset.univ (fun t => castCr c t))) := by
  unfold castP
  have key : ∀ t : Fin 7, Tri m K c iprop((pts c (aRow c) keep (tab m) ∗ owesX c (debt c 7 7 t.val)) ∗ (pts c (aRow c) (tokShare t) (tab m) ∗ castRes c t))
      (sendMaxP c ![t.castSucc.val] (sem_inb t.castSucc) (up c t)) (fun _ => iprop((pts c (aRow c) keep (tab m) ∗ owesX c (debt c 7 7 (t.val + 1))) ∗ castCr c t)) := fun t => by
    refine ((tri_sendMax t rfl rfl).with (pts c (aRow c) keep (tab m))).mono ?_ fun _ => ?_
    · unfold castRes; iintro ⟨⟨H1, H2⟩, H3, H4⟩; iframe
    · unfold castCr; iintro ⟨⟨H1, H2⟩, H3⟩; iframe
  rw [show (⟨k0_dev15 c, k0_dev15_lt c⟩ : Dev nD) = up c 0 from Fin.ext (k0_dev15_eq c), show (⟨k0_dev16 c, k0_dev16_lt c⟩ : Dev nD) = up c 1 from Fin.ext (k0_dev16_eq c),
    show (⟨k0_dev17 c, k0_dev17_lt c⟩ : Dev nD) = up c 2 from Fin.ext (k0_dev17_eq c), show (⟨k0_dev18 c, k0_dev18_lt c⟩ : Dev nD) = up c 3 from Fin.ext (k0_dev18_eq c),
    show (⟨k0_dev19 c, k0_dev19_lt c⟩ : Dev nD) = up c 4 from Fin.ext (k0_dev19_eq c), show (⟨k0_dev20 c, k0_dev20_lt c⟩ : Dev nD) = up c 5 from Fin.ext (k0_dev20_eq c),
    show (⟨k0_dev21 c, k0_dev21_lt c⟩ : Dev nD) = up c 6 from Fin.ext (k0_dev21_eq c)]
  refine (Tri.seven (f := fun t => sendMaxP c ![t.castSucc.val] (sem_inb t.castSucc) (up c t)) (A := fun n => iprop(pts c (aRow c) keep (tab m) ∗ owesX c (debt c 7 7 n)))
    (R := fun t => iprop(pts c (aRow c) (tokShare t) (tab m) ∗ castRes c t)) (S := fun t => castCr c t) key).mono ?_ fun _ => ?_
  · rw [row_lend, bigSep_sep']
    iintro ⟨H1, ⟨H2, H3⟩, H4⟩; iframe
  · rw [debt_none]; iintro ⟨⟨H1, H2⟩, H3⟩; iframe

theorem tri_table : Tri m K c iprop(pts c amaxV keep (tab m)) (Prog.lift (.load amaxV (Rect.unit (s := S8x128) ![0, 0] S8x128.size inb_S8x128_S8x128_0_0).toLoadRect (View.loadsAt_vmem h_S8x128)))
    (fun x => iprop(⌜x = tab m⌝ ∗ pts c amaxV keep (tab m))) := by
  unfold pts
  refine (tri_load (M := amaxV) (r := Rect.unit (s := S8x128) ![0, 0] S8x128.size inb_S8x128_S8x128_0_0) (S := amaxV.view.set) (q := keep) (f := tab m) (View.set_slice_subset amaxV.view _)).post fun x => ?_
  iintro ⟨%hx, H⟩
  isplitr
  · ipureintro; rw [hx]; funext i; exact congrArg (tab m) (emb_zero (by decide) inb_S8x128_S8x128_0_0 i)
  iexact H

/-- What the waits for the rows leave, the rows apart. -/
def rowPos (c : Dev nD) (t : Fin 7) : sProp 𝕄 := atPos ER (cell c (rAR (up c t))) 1 ∅ 0

theorem tri_gather :
    Tri m K c iprop(owesX c 0 ∗ pts c (aRow c) keep (tab m) ∗ bigSep Finset.univ (fun t => rowRes c t)) (gatherP c)
      (fun g => iprop(⌜g = gmax m⌝ ∗ owesX c 0 ∗ pts c (aRow c) keep (tab m) ∗ bigSep Finset.univ (fun t => rowPos c t)
        ∗ bigSep Finset.univ (fun t : Fin 7 => pts c (aRow (up c t)) fullShare (tab m)))) := by
  unfold gatherP
  have key : ∀ t : Fin 7, Tri m K c iprop((pts c (aRow c) keep (tab m) ∗ owesX c 0) ∗ rowRes c t)
      (recvMaxP c t) (fun _ => iprop((pts c (aRow c) keep (tab m) ∗ owesX c 0) ∗ (rowPos c t ∗ pts c (aRow (up c t)) fullShare (tab m)))) := fun t => by
    refine ((tri_recvMax t).with (pts c (aRow c) keep (tab m))).mono ?_ fun _ => ?_
    · unfold rowRes; iintro ⟨⟨H1, H2⟩, H3, H4⟩; iframe
    · unfold rowPos; iintro ⟨⟨H1, H2, H3⟩, H4⟩; iframe
  refine (Tri.sevenK (f := fun t => recvMaxP c t) (A := fun _ => iprop(pts c (aRow c) keep (tab m) ∗ owesX c 0))
    (R := fun t => rowRes c t) (S := fun t => iprop(rowPos c t ∗ pts c (aRow (up c t)) fullShare (tab m))) key ?_).pre ?_
  · have hj : (bigSep Finset.univ (fun t : Fin 7 => pts c (aRow (up c t)) fullShare (tab m)) : sProp 𝕄)
        = iprop(bigSep Finset.univ (fun t : Fin 7 => pts c (aRow (up c t)) keep (tab m)) ∗ bigSep Finset.univ (fun t : Fin 7 => bigSep Finset.univ (fun i : Fin 7 => pts c (aRow (up c t)) (tokShare i) (tab m)))) := by
      rw [← bigSep_sep']; exact bigSep_congr fun t _ => row_lend (up c t) (tab m)
    have hw : (pts c amaxV keep (tab m) : sProp 𝕄) = iprop(pts c (aRow c) keep (tab m) ∗ bigSep Finset.univ (fun t : Fin 7 => pts c (aRow (up c t)) keep (tab m))) := by
      rw [cut_amax, rot_up _ c]
    rw [bigSep_sep', hj]
    refine Tri.bind ((tri_table.with iprop(owesX c 0 ∗ bigSep Finset.univ (fun t => rowPos c t) ∗ bigSep Finset.univ (fun t : Fin 7 => bigSep Finset.univ (fun i : Fin 7 => pts c (aRow (up c t)) (tokShare i) (tab m))))).pre ?_) fun x => ?_
    · rw [hw]; iintro ⟨⟨H1, H2⟩, H3, H4, H5⟩; iframe
    refine (Tri.pure (p := x = tab m) fun hx => ?_).pre sep_assoc.1
    subst hx
    refine Tri.ret.pre ?_
    rw [hw]
    iintro ⟨⟨H1, H2⟩, H3, H4, H5⟩
    isplitr; · ipureintro; rfl
    iframe
  · iintro ⟨H1, H2, H3⟩; iframe

/-! ## The blocks of the output -/

/-- What the `t`-th incoming block's output needs, and what it leaves. -/
def blkRes (c : Dev nD) (t : Fin 7) : sProp 𝕄 := iprop(cred (tallyAt (cell c (rDR (dn c t))) () NB) ∗ atPos ER (cell c (rDR (dn c t))) 0 ∅ 0 ∗ some_ c (oSl (dn c t)))
def blkDone (m : Mem0 F) (c : Dev nD) (t : Fin 7) : sProp 𝕄 :=
  iprop(atPos ER (cell c (rDR (dn c t))) 1 ∅ 0 ∗ holds c (rRow (dn c t)) (ybAt m (dn c t) c) ∗ holds c (oSl (dn c t)) (outBlk m c (dn c t)))

theorem tri_blocks :
    Tri m K c iprop(owesX c 0 ∗ bigSep Finset.univ (fun t => blkRes c t) ∗ holds c (rRow c) (ybAt m c c) ∗ some_ c (oSl c))
      (blocksP c (Scalar.divf (Scalar.ofBits .f32 0x43E00000#32) (gmax m)) (Scalar.divf (gmax m) (Scalar.ofBits .f32 0x43E00000#32)))
      (fun _ => iprop(owesX c 0 ∗ bigSep Finset.univ (fun t => blkDone m c t) ∗ holds c (rRow c) (ybAt m c c) ∗ holds c (oSl c) (outBlk m c c))) := by
  unfold blocksP
  generalize hr : Scalar.divf (Scalar.ofBits .f32 0x43E00000#32) (gmax m) = r
  generalize hs : Scalar.divf (gmax m) (Scalar.ofBits .f32 0x43E00000#32) = s
  have ho : ∀ d : Dev nD, outBlk m c d = quantBlk r s (ybAt m d c) := fun d => by unfold outBlk; rw [hr, hs]
  have key : ∀ t : Fin 7, Tri m K c iprop(((holds c (rRow c) (ybAt m c c) ∗ some_ c (oSl c)) ∗ owesX c 0) ∗ blkRes c t)
      (outP c t r s) (fun _ => iprop(((holds c (rRow c) (ybAt m c c) ∗ some_ c (oSl c)) ∗ owesX c 0) ∗ blkDone m c t)) := fun t => by
    unfold outP blkRes blkDone
    refine Tri.bind (((tri_recv t).with iprop((holds c (rRow c) (ybAt m c c) ∗ some_ c (oSl c)) ∗ some_ c (oSl (dn c t)))).pre ?_) fun _ => ?_
    · iintro ⟨⟨H1, H2⟩, H3, H4, H5⟩; iframe
    rw [ho]
    refine ((tri_emit (dn c t) ((k0_off14_eq c t).trans (by rw [dn_val])) ((k0_off15_eq c t).trans (by rw [dn_val])) r s (ybAt m (dn c t) c)).with
      iprop(((holds c (rRow c) (ybAt m c c) ∗ some_ c (oSl c)) ∗ owesX c 0) ∗ atPos ER (cell c (rDR (dn c t))) 1 ∅ 0)).mono ?_ fun _ => ?_
    · iintro ⟨⟨H1, H2, H3⟩, H4, H5⟩; iframe
    · iintro ⟨⟨H1, H2⟩, H3, H4⟩; iframe
  refine (Tri.sevenK (f := fun t => outP c t r s) (A := fun _ => iprop((holds c (rRow c) (ybAt m c c) ∗ some_ c (oSl c)) ∗ owesX c 0))
    (R := fun t => blkRes c t) (S := fun t => blkDone m c t) key ?_).pre ?_
  · refine ((tri_emit c (k0_off7_eq c) (k0_off16_eq c) r s (ybAt m c c)).with iprop(owesX c 0 ∗ bigSep Finset.univ (fun t => blkDone m c t))).mono ?_ fun _ => ?_
    · iintro ⟨⟨H1, H2⟩, H3⟩; iframe
    · rw [ho c]; iintro ⟨⟨H1, H2⟩, H3, H4⟩; iframe
  · iintro ⟨H1, H2, H3⟩; iframe

/-! ## The departures -/

def sentRes (c : Dev nD) (t : Fin 7) : sProp 𝕄 := iprop(sentCr c t ∗ atPos ER (cell c (rDS (up c t))) 0 ∅ 0)
def sentDone (c : Dev nD) (t : Fin 7) : sProp 𝕄 := iprop(atPos ER (cell c (rDS (up c t))) 1 ∅ 0 ∗ some_ c (sRow (up c t)))
def goneRes (c : Dev nD) (t : Fin 7) : sProp 𝕄 := iprop(castCr c t ∗ atPos ER (cell c (rAS t.castSucc)) 0 ∅ 0)
def goneDone (m : Mem0 F) (c : Dev nD) (t : Fin 7) : sProp 𝕄 := iprop(atPos ER (cell c (rAS t.castSucc)) 1 ∅ 0 ∗ pts c (aRow c) (tokShare t) (tab m))

theorem tri_drain :
    Tri m K c iprop(owesX c 0 ∗ bigSep Finset.univ (fun t => sentRes c t) ∗ bigSep Finset.univ (fun t => goneRes c t)) (drainP c)
      (fun _ => iprop(owesX c 0 ∗ bigSep Finset.univ (fun t => sentDone c t) ∗ bigSep Finset.univ (fun t => goneDone m c t))) := by
  unfold drainP
  have key : ∀ t : Fin 7, Tri m K c iprop((bigSep Finset.univ (fun t => goneRes c t) ∗ owesX c 0) ∗ sentRes c t)
      (sentP c t) (fun _ => iprop((bigSep Finset.univ (fun t => goneRes c t) ∗ owesX c 0) ∗ sentDone c t)) := fun t => by
    refine ((tri_sent t).with (bigSep Finset.univ (fun t => goneRes c t))).mono ?_ fun _ => ?_
    · unfold sentRes sentCr; iintro ⟨⟨H1, H2⟩, H3, H4⟩; iframe
    · unfold sentDone; iintro ⟨⟨H1, H2, H3⟩, H4⟩; iframe
  have key' : ∀ t : Fin 7, Tri m K c iprop((bigSep Finset.univ (fun t => sentDone c t) ∗ owesX c 0) ∗ goneRes c t)
      (sentMaxP c ![t.castSucc.val] (sem_inb t.castSucc)) (fun _ => iprop((bigSep Finset.univ (fun t => sentDone c t) ∗ owesX c 0) ∗ goneDone m c t)) := fun t => by
    refine ((tri_sentMax t rfl).with (bigSep Finset.univ (fun t => sentDone c t))).mono ?_ fun _ => ?_
    · unfold goneRes castCr; iintro ⟨⟨H1, H2⟩, H3, H4⟩; iframe
    · unfold goneDone; iintro ⟨⟨H1, H2, H3⟩, H4⟩; iframe
  refine (Tri.sevenK (f := fun t => sentP c t) (A := fun _ => iprop(bigSep Finset.univ (fun t => goneRes c t) ∗ owesX c 0))
    (R := fun t => sentRes c t) (S := fun t => sentDone c t) key ?_).pre ?_
  · refine (Tri.seven (f := fun t => sentMaxP c ![t.castSucc.val] (sem_inb t.castSucc)) (A := fun _ => iprop(bigSep Finset.univ (fun t => sentDone c t) ∗ owesX c 0))
      (R := fun t => goneRes c t) (S := fun t => goneDone m c t) key').mono ?_ fun _ => ?_
    · iintro ⟨⟨H1, H2⟩, H3⟩; iframe
    · iintro ⟨⟨H1, H2⟩, H3⟩; iframe
  · iintro ⟨H1, H2, H3⟩; iframe

/-! ## The body -/

/-- What the barrier needs on device `c`. -/
def barRes (c : Dev nD) (t : Fin 7) : sProp 𝕄 := iprop(dutyTok ER (cell (up c t) rBar) 0 c ∗ some_ c (rRow (up c t)) ∗ some_ c (aRow (up c t)))
/-- What the sends need of device `c`'s own. -/
def sendOwn (c : Dev nD) (t : Fin 7) : sProp 𝕄 := iprop(some_ c (sRow (up c t)) ∗ dutyTok ER (cell c (rDS (up c t))) 0 0 ∗ dutyTok ER (cell (up c t) (rDR c)) 0 0)
def castOwn (c : Dev nD) (t : Fin 7) : sProp 𝕄 := iprop(dutyTok ER (cell c (rAS t.castSucc)) 0 0 ∗ dutyTok ER (cell (up c t) (rAR c)) 0 0)

/-- What device `c` starts with. -/
def start (m : Mem0 F) (c : Dev nD) : sProp 𝕄 :=
  iprop(owesX c (debt c 0 0 0)
    ∗ (bigSep Finset.univ (fun t => barRes c t) ∗ cred (tallyAt (cell c rBar) () 7) ∗ atPos ER (cell c rBar) 0 ∅ 0)
    ∗ (pts c xH fullShare (m ((c : Thread nD τ).loc main_arg0)) ∗ some_ c xV ∗ dutyTok ER (cell c rX) 0 0 ∗ atPos ER (cell c rX) 0 ∅ 0 ∗ some_ c xbV)
    ∗ (wst m c 0 0 ∗ wst m c 1 0 ∗ wst m c 2 0 ∗ wst m c 3 0)
    ∗ (bigSep Finset.univ (fun t => sendOwn c t) ∗ bigSep Finset.univ (fun t => castOwn c t))
    ∗ (some_ c (rRow c) ∗ some_ c (aRow c) ∗ some_ c (oSl c))
    ∗ (bigSep Finset.univ (fun t => rowRes c t) ∗ bigSep Finset.univ (fun t => blkRes c t))
    ∗ (bigSep Finset.univ (fun t : Fin 7 => atPos ER (cell c (rDS (up c t))) 0 ∅ 0) ∗ bigSep Finset.univ (fun t : Fin 7 => atPos ER (cell c (rAS t.castSucc)) 0 ∅ 0)))

/-- What it ends with. -/
def final (m : Mem0 F) (c : Dev nD) : sProp 𝕄 :=
  iprop(owesX c 0
    ∗ atPos ER (cell c rBar) 1 ∅ 0
    ∗ (pts c xH fullShare (m ((c : Thread nD τ).loc main_arg0)) ∗ some_ c xV ∗ atPos ER (cell c rX) 1 ∅ 0 ∗ holds c xbV (xbAt m c))
    ∗ (wst m c 0 4 ∗ wst m c 1 4 ∗ wst m c 2 4 ∗ wst m c 3 4)
    ∗ (bigSep Finset.univ (fun t => sentDone c t) ∗ bigSep Finset.univ (fun t => goneDone m c t))
    ∗ (bigSep Finset.univ (fun t => rowPos c t) ∗ bigSep Finset.univ (fun t : Fin 7 => pts c (aRow (up c t)) fullShare (tab m)) ∗ pts c (aRow c) keep (tab m))
    ∗ (bigSep Finset.univ (fun t => blkDone m c t) ∗ holds c (rRow c) (ybAt m c c) ∗ holds c (oSl c) (outBlk m c c)))

set_option maxHeartbeats 2000000 in
theorem tri_body : Tri m K c (start m c) (bodyP c) (fun _ => final m c) := by
  unfold bodyP start
  refine Tri.bind ((tri_barrier.with iprop(
      (pts c xH fullShare (m ((c : Thread nD τ).loc main_arg0)) ∗ some_ c xV ∗ dutyTok ER (cell c rX) 0 0 ∗ atPos ER (cell c rX) 0 ∅ 0 ∗ some_ c xbV)
    ∗ (wst m c 0 0 ∗ wst m c 1 0 ∗ wst m c 2 0 ∗ wst m c 3 0)
    ∗ (bigSep Finset.univ (fun t => sendOwn c t) ∗ bigSep Finset.univ (fun t => castOwn c t))
    ∗ (some_ c (rRow c) ∗ some_ c (aRow c) ∗ some_ c (oSl c))
    ∗ (bigSep Finset.univ (fun t => rowRes c t) ∗ bigSep Finset.univ (fun t => blkRes c t))
    ∗ (bigSep Finset.univ (fun t : Fin 7 => atPos ER (cell c (rDS (up c t))) 0 ∅ 0) ∗ bigSep Finset.univ (fun t : Fin 7 => atPos ER (cell c (rAS t.castSucc)) 0 ∅ 0)))).pre ?_) fun _ => ?_
  · unfold barRes
    iintro ⟨H1, ⟨H2, H3, H4⟩, H5⟩
    isplitr [H5]; · (isplitl [H1]; · iexact H1); isplitl [H2]; · iexact H2
                    isplitl [H3] <;> iassumption
    iexact H5
  have hs : iprop(bigSep Finset.univ (fun t : Fin 7 => some_ (up c t) (rRow c)) ∗ bigSep Finset.univ (fun t => sendOwn c t)) ⊢ (bigSep Finset.univ (fun t => sendRes c t) : sProp 𝕄) := by
    rw [← bigSep_sep']
    exact bigSep_mono fun t _ => (show iprop(some_ (up c t) (rRow c) ∗ sendOwn c t) ⊢ (sendRes c t : sProp 𝕄) from (by
      unfold sendOwn sendRes
      iintro ⟨H1, H2, H3, H4⟩; iframe))
  have hc : iprop(bigSep Finset.univ (fun t : Fin 7 => some_ (up c t) (aRow c)) ∗ bigSep Finset.univ (fun t => castOwn c t)) ⊢ (bigSep Finset.univ (fun t => castRes c t) : sProp 𝕄) := by
    rw [← bigSep_sep']
    exact .rfl
  refine Tri.bind ((tri_loadP.with iprop(atPos ER (cell c rBar) 1 ∅ 0 ∗ wst m c 3 0 ∗ bigSep Finset.univ (fun t => sendRes c t) ∗ bigSep Finset.univ (fun t => castRes c t)
    ∗ (some_ c (rRow c) ∗ some_ c (aRow c) ∗ some_ c (oSl c))
    ∗ (bigSep Finset.univ (fun t => rowRes c t) ∗ bigSep Finset.univ (fun t => blkRes c t))
    ∗ (bigSep Finset.univ (fun t : Fin 7 => atPos ER (cell c (rDS (up c t))) 0 ∅ 0) ∗ bigSep Finset.univ (fun t : Fin 7 => atPos ER (cell c (rAS t.castSucc)) 0 ∅ 0)))).pre ?_) fun _ => ?_
  · iintro ⟨⟨HO, Hb, Hr, Ha⟩, Hx, ⟨Hw0, Hw1, Hw2, Hw3⟩, ⟨Hs, Hc⟩, Ho, Hi, Hp⟩
    ihave Hs := hs $$ [Hr Hs]
    · isplitl [Hr] <;> iassumption
    ihave Hc := hc $$ [Ha Hc]
    · isplitl [Ha] <;> iassumption
    isplitl [HO Hx Hw0 Hw1 Hw2]
    · isplitl [HO]; · iexact HO
      isplitl [Hx]; · iexact Hx
      isplitl [Hw0]; · iexact Hw0
      isplitl [Hw1] <;> iassumption
    isplitl [Hb]; · iexact Hb
    isplitl [Hw3]; · iexact Hw3
    isplitl [Hs]; · iexact Hs
    isplitl [Hc]; · iexact Hc
    isplitl [Ho]; · iexact Ho
    isplitl [Hi] <;> iassumption
  refine Tri.bind ((tri_rounds.with iprop(atPos ER (cell c rBar) 1 ∅ 0 ∗ (pts c xH fullShare (m ((c : Thread nD τ).loc main_arg0)) ∗ some_ c xV ∗ atPos ER (cell c rX) 1 ∅ 0)
    ∗ bigSep Finset.univ (fun t => castRes c t)
    ∗ (some_ c (rRow c) ∗ some_ c (aRow c) ∗ some_ c (oSl c))
    ∗ (bigSep Finset.univ (fun t => rowRes c t) ∗ bigSep Finset.univ (fun t => blkRes c t))
    ∗ (bigSep Finset.univ (fun t : Fin 7 => atPos ER (cell c (rDS (up c t))) 0 ∅ 0) ∗ bigSep Finset.univ (fun t : Fin 7 => atPos ER (cell c (rAS t.castSucc)) 0 ∅ 0)))).pre ?_) fun a => ?_
  · iintro ⟨⟨HO, Hxb, Hx, Hw0, Hw1, Hw2⟩, Hb, Hw3, Hs, Hc, Ho, Hi, Hp⟩
    isplitl [HO Hxb Hw0 Hw1 Hw2 Hw3 Hs]
    · isplitl [HO Hxb]; · isplitl [HO] <;> iassumption
      isplitl [Hs]; · iexact Hs
      isplitl [Hw0]; · iexact Hw0
      isplitl [Hw1]; · iexact Hw1
      isplitl [Hw2] <;> iassumption
    isplitl [Hb]; · iexact Hb
    isplitl [Hx]; · iexact Hx
    isplitl [Hc]; · iexact Hc
    isplitl [Ho]; · iexact Ho
    isplitl [Hi] <;> iassumption
  refine (Tri.pure (p := a = maxUpto m c 7) fun ha => ?_).pre sep_assoc.1
  subst ha
  have hp : iprop(bigSep Finset.univ (fun t => sentCr c t) ∗ bigSep Finset.univ (fun t : Fin 7 => atPos ER (cell c (rDS (up c t))) 0 ∅ 0)) ⊢ (bigSep Finset.univ (fun t => sentRes c t) : sProp 𝕄) := by
    rw [← bigSep_sep']; exact .rfl
  have hg : iprop(bigSep Finset.univ (fun t => castCr c t) ∗ bigSep Finset.univ (fun t : Fin 7 => atPos ER (cell c (rAS t.castSucc)) 0 ∅ 0)) ⊢ (bigSep Finset.univ (fun t => goneRes c t) : sProp 𝕄) := by
    rw [← bigSep_sep']; exact .rfl
  refine Tri.bind ((tri_own.with iprop(atPos ER (cell c rBar) 1 ∅ 0 ∗ (pts c xH fullShare (m ((c : Thread nD τ).loc main_arg0)) ∗ some_ c xV ∗ atPos ER (cell c rX) 1 ∅ 0)
    ∗ bigSep Finset.univ (fun t => castRes c t) ∗ some_ c (oSl c)
    ∗ (bigSep Finset.univ (fun t => rowRes c t) ∗ bigSep Finset.univ (fun t => blkRes c t))
    ∗ bigSep Finset.univ (fun t => sentRes c t) ∗ bigSep Finset.univ (fun t : Fin 7 => atPos ER (cell c (rAS t.castSucc)) 0 ∅ 0)
    ∗ (wst m c 0 4 ∗ wst m c 1 4 ∗ wst m c 2 4))).pre ?_) fun _ => ?_
  · iintro ⟨⟨HO, Hs, Hw0, Hw1, Hw2, Hw3⟩, Hb, Hx, Hc, ⟨Hr, Ha, Ho⟩, Hi, Hp, Hg⟩
    ihave Hs := hp $$ [Hs Hp]
    · isplitl [Hs] <;> iassumption
    isplitl [HO Hw3 Hr Ha]
    · isplitl [HO]; · iexact HO
      isplitl [Hw3]; · iexact Hw3
      isplitl [Hr] <;> iassumption
    isplitl [Hb]; · iexact Hb
    isplitl [Hx]; · iexact Hx
    isplitl [Hc]; · iexact Hc
    isplitl [Ho]; · iexact Ho
    isplitl [Hi]; · iexact Hi
    isplitl [Hs]; · iexact Hs
    isplitl [Hg]; · iexact Hg
    isplitl [Hw0]; · iexact Hw0
    isplitl [Hw1] <;> iassumption
  refine Tri.bind ((tri_cast.with iprop(atPos ER (cell c rBar) 1 ∅ 0 ∗ (pts c xH fullShare (m ((c : Thread nD τ).loc main_arg0)) ∗ some_ c xV ∗ atPos ER (cell c rX) 1 ∅ 0)
    ∗ some_ c (oSl c) ∗ holds c (rRow c) (ybAt m c c) ∗ holds c xbV (xbAt m c)
    ∗ (bigSep Finset.univ (fun t => rowRes c t) ∗ bigSep Finset.univ (fun t => blkRes c t))
    ∗ bigSep Finset.univ (fun t => sentRes c t) ∗ bigSep Finset.univ (fun t : Fin 7 => atPos ER (cell c (rAS t.castSucc)) 0 ∅ 0)
    ∗ (wst m c 0 4 ∗ wst m c 1 4 ∗ wst m c 2 4 ∗ wst m c 3 4))).pre ?_) fun _ => ?_
  · iintro ⟨⟨⟨HO, Hxb⟩, Hw3, Hr, Ha⟩, Hb, Hx, Hc, Ho, Hi, Hs, Hg, Hw0, Hw1, Hw2⟩
    isplitl [HO Ha Hc]
    · isplitl [HO]; · iexact HO
      isplitl [Ha] <;> iassumption
    isplitl [Hb]; · iexact Hb
    isplitl [Hx]; · iexact Hx
    isplitl [Ho]; · iexact Ho
    isplitl [Hr]; · iexact Hr
    isplitl [Hxb]; · iexact Hxb
    isplitl [Hi]; · iexact Hi
    isplitl [Hs]; · iexact Hs
    isplitl [Hg]; · iexact Hg
    isplitl [Hw0]; · iexact Hw0
    isplitl [Hw1]; · iexact Hw1
    isplitl [Hw2] <;> iassumption
  refine Tri.bind ((tri_gather.with iprop(atPos ER (cell c rBar) 1 ∅ 0 ∗ (pts c xH fullShare (m ((c : Thread nD τ).loc main_arg0)) ∗ some_ c xV ∗ atPos ER (cell c rX) 1 ∅ 0)
    ∗ some_ c (oSl c) ∗ holds c (rRow c) (ybAt m c c) ∗ holds c xbV (xbAt m c)
    ∗ bigSep Finset.univ (fun t => blkRes c t)
    ∗ bigSep Finset.univ (fun t => sentRes c t) ∗ bigSep Finset.univ (fun t => goneRes c t)
    ∗ (wst m c 0 4 ∗ wst m c 1 4 ∗ wst m c 2 4 ∗ wst m c 3 4))).pre ?_) fun g => ?_
  · iintro ⟨⟨HO, Ha, Hc⟩, Hb, Hx, Ho, Hr, Hxb, ⟨Hi, Hk⟩, Hs, Hg, Hw⟩
    ihave Hg := hg $$ [Hc Hg]
    · isplitl [Hc] <;> iassumption
    isplitl [HO Ha Hi]
    · isplitl [HO]; · iexact HO
      isplitl [Ha] <;> iassumption
    isplitl [Hb]; · iexact Hb
    isplitl [Hx]; · iexact Hx
    isplitl [Ho]; · iexact Ho
    isplitl [Hr]; · iexact Hr
    isplitl [Hxb]; · iexact Hxb
    isplitl [Hk]; · iexact Hk
    isplitl [Hs]; · iexact Hs
    isplitl [Hg] <;> iassumption
  refine (Tri.pure (p := g = gmax m) fun hg => ?_).pre sep_assoc.1
  subst hg
  refine Tri.bind ((tri_blocks.with iprop(atPos ER (cell c rBar) 1 ∅ 0 ∗ (pts c xH fullShare (m ((c : Thread nD τ).loc main_arg0)) ∗ some_ c xV ∗ atPos ER (cell c rX) 1 ∅ 0)
    ∗ holds c xbV (xbAt m c)
    ∗ (bigSep Finset.univ (fun t => rowPos c t) ∗ bigSep Finset.univ (fun t : Fin 7 => pts c (aRow (up c t)) fullShare (tab m)) ∗ pts c (aRow c) keep (tab m))
    ∗ bigSep Finset.univ (fun t => sentRes c t) ∗ bigSep Finset.univ (fun t => goneRes c t)
    ∗ (wst m c 0 4 ∗ wst m c 1 4 ∗ wst m c 2 4 ∗ wst m c 3 4))).pre ?_) fun _ => ?_
  · iintro ⟨⟨HO, Ha, Hrp, Hra⟩, Hb, Hx, Ho, Hr, Hxb, Hk, Hs, Hg, Hw⟩
    isplitl [HO Hk Hr Ho]
    · isplitl [HO]; · iexact HO
      isplitl [Hk]; · iexact Hk
      isplitl [Hr] <;> iassumption
    isplitl [Hb]; · iexact Hb
    isplitl [Hx]; · iexact Hx
    isplitl [Hxb]; · iexact Hxb
    isplitl [Hrp Hra Ha]
    · isplitl [Hrp]; · iexact Hrp
      isplitl [Hra] <;> iassumption
    isplitl [Hs]; · iexact Hs
    isplitl [Hg] <;> iassumption
  refine (tri_drain.with iprop(atPos ER (cell c rBar) 1 ∅ 0 ∗ (pts c xH fullShare (m ((c : Thread nD τ).loc main_arg0)) ∗ some_ c xV ∗ atPos ER (cell c rX) 1 ∅ 0)
    ∗ holds c xbV (xbAt m c)
    ∗ (bigSep Finset.univ (fun t => rowPos c t) ∗ bigSep Finset.univ (fun t : Fin 7 => pts c (aRow (up c t)) fullShare (tab m)) ∗ pts c (aRow c) keep (tab m))
    ∗ (bigSep Finset.univ (fun t => blkDone m c t) ∗ holds c (rRow c) (ybAt m c c) ∗ holds c (oSl c) (outBlk m c c))
    ∗ (wst m c 0 4 ∗ wst m c 1 4 ∗ wst m c 2 4 ∗ wst m c 3 4))).mono ?_ fun _ => ?_
  · iintro ⟨⟨HO, Hk⟩, Hb, Hx, Hxb, Ha, Hs, Hg, Hw⟩
    isplitl [HO Hs Hg]
    · isplitl [HO]; · iexact HO
      isplitl [Hs] <;> iassumption
    isplitl [Hb]; · iexact Hb
    isplitl [Hx]; · iexact Hx
    isplitl [Hxb]; · iexact Hxb
    isplitl [Ha]; · iexact Ha
    isplitl [Hk] <;> iassumption
  unfold final
  iintro ⟨⟨HO, Hs, Hg⟩, Hb, ⟨Hx1, Hx2, Hx3⟩, Hxb, Ha, Hk, Hw⟩
  isplitl [HO]; · iexact HO
  isplitl [Hb]; · iexact Hb
  isplitl [Hx1 Hx2 Hx3 Hxb]
  · isplitl [Hx1]; · iexact Hx1
    isplitl [Hx2]; · iexact Hx2
    isplitl [Hx3] <;> iassumption
  isplitl [Hw]; · iexact Hw
  isplitl [Hs Hg]; · isplitl [Hs] <;> iassumption
  isplitl [Ha] <;> iassumption

end Cert.KernelIdeal.A2A

end
-- ==== Proof.Ends.lean ====
module

public import proofs.«01_k».proof.Proof.Whole

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! The two ends of a device's run: its buffers whole, its cells and tokens by role. -/

section Roles
variable (Φ : Role → sProp (MT nD τ sig Unit (Elt F) ℕ UU ℕ))

omit [FloatOps F] in
/-- A family over the roles, kind by kind. -/
theorem by_role : bigSep Finset.univ Φ = iprop((Φ rBar ∗ Φ rX) ∗ bigSep Finset.univ (fun k => Φ (rW k)) ∗ bigSep Finset.univ (fun j => Φ (rDS j))
    ∗ bigSep Finset.univ (fun j => Φ (rDR j)) ∗ bigSep Finset.univ (fun j => Φ (rAS j)) ∗ bigSep Finset.univ (fun j => Φ (rAR j))) := by
  rw [BI.bigSep_univ_sum, BI.bigSep_univ_sum, BI.bigSep_univ_sum, BI.bigSep_univ_sum, BI.bigSep_univ_sum,
    bigSep_univ_eq_bigSepL [false, true] (by decide) (by decide)]
  rfl

/-- The same, with each family over the devices seen from device `c`. -/
theorem by_role_from (c : Dev nD) : bigSep Finset.univ Φ = iprop((Φ rBar ∗ Φ rX) ∗ bigSep Finset.univ (fun k => Φ (rW k))
    ∗ (Φ (rDS c) ∗ bigSep Finset.univ (fun t : Fin 7 => Φ (rDS (up c t)))) ∗ (Φ (rDR c) ∗ bigSep Finset.univ (fun t : Fin 7 => Φ (rDR (dn c t))))
    ∗ (Φ (rAS 7) ∗ bigSep Finset.univ (fun t : Fin 7 => Φ (rAS t.castSucc))) ∗ (Φ (rAR c) ∗ bigSep Finset.univ (fun t : Fin 7 => Φ (rAR (up c t))))) := by
  rw [by_role, rot_up (fun j => Φ (rDS j)) c, rot_dn (fun j => Φ (rDR j)) c, rot_last (fun j => Φ (rAS j)), rot_up (fun j => Φ (rAR j)) c]
end Roles

omit [FloatOps F] in
theorem four (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

variable (m : Mem0 F) (c : Dev nD)

/-- Device `c`'s places in its cells, `R` rounds done. -/
def posAll (R : Role → ℕ) : sProp 𝕄 := bigSep Finset.univ fun ro : Role => atPos ER (cell c ro) (R ro) ∅ 0
/-- The places in the cells that no transfer uses. -/
def idle : sProp 𝕄 := iprop(atPos ER (cell c (rDS c)) 0 ∅ 0 ∗ atPos ER (cell c (rDR c)) 0 ∅ 0 ∗ atPos ER (cell c (rAS 7)) 0 ∅ 0 ∗ atPos ER (cell c (rAR c)) 0 ∅ 0)
/-- The duties that device `c` pays. -/
def payToks : sProp 𝕄 :=
  iprop(bigSep Finset.univ (fun t : Fin 7 => dutyTok ER (cell (up c t) rBar) 0 c) ∗ dutyTok ER (cell c rX) 0 0
    ∗ (bigSep Finset.univ (fun k : Fin 4 => dutyTok ER (cell c (rW k)) 0 0) ∗ bigSep Finset.univ (fun k : Fin 4 => dutyTok ER (cell c (rW k)) 1 0))
    ∗ (bigSep Finset.univ (fun t : Fin 7 => dutyTok ER (cell c (rDS (up c t))) 0 0) ∗ bigSep Finset.univ (fun t : Fin 7 => dutyTok ER (cell (up c t) (rDR c)) 0 0))
    ∗ (bigSep Finset.univ (fun t : Fin 7 => dutyTok ER (cell c (rAS t.castSucc)) 0 0) ∗ bigSep Finset.univ (fun t : Fin 7 => dutyTok ER (cell (up c t) (rAR c)) 0 0)))
/-- What device `c` may wait for that another pays. -/
def credits : sProp 𝕄 :=
  iprop(cred (tallyAt (cell c rBar) () 7) ∗ bigSep Finset.univ (fun t : Fin 7 => cred (tallyAt (cell c (rDR (dn c t))) () NB))
    ∗ bigSep Finset.univ (fun t : Fin 7 => cred (tallyAt (cell c (rAR (up c t))) () NA)))
/-- The arguments, whole. -/
def inputs : sProp 𝕄 := iprop(pts c xH fullShare (m ((c : Thread nD τ).loc main_arg0)) ∗ pts c wH fullShare (m ((c : Thread nD τ).loc main_arg1)))
/-- The working buffers, whole. -/
def working : sProp 𝕄 :=
  iprop(some_ c xV ∗ some_ c xbV ∗ some_ c wb0 ∗ some_ c wb1 ∗ some_ c wb2 ∗ some_ c wb3 ∗ some_ c sendV ∗ some_ c recvV ∗ some_ c amaxV)

theorem pos_start : (posAll (F := F) c fun _ => 0) = iprop((atPos ER (cell c rBar) 0 ∅ 0 ∗ atPos ER (cell c rX) 0 ∅ 0) ∗ bigSep Finset.univ (fun k : Fin 4 => atPos ER (cell c (rW k)) 0 ∅ 0)
    ∗ (atPos ER (cell c (rDS c)) 0 ∅ 0 ∗ bigSep Finset.univ (fun t : Fin 7 => atPos ER (cell c (rDS (up c t))) 0 ∅ 0))
    ∗ (atPos ER (cell c (rDR c)) 0 ∅ 0 ∗ bigSep Finset.univ (fun t : Fin 7 => atPos ER (cell c (rDR (dn c t))) 0 ∅ 0))
    ∗ (atPos ER (cell c (rAS 7)) 0 ∅ 0 ∗ bigSep Finset.univ (fun t : Fin 7 => atPos ER (cell c (rAS t.castSucc)) 0 ∅ 0))
    ∗ (atPos ER (cell c (rAR c)) 0 ∅ 0 ∗ bigSep Finset.univ (fun t : Fin 7 => atPos ER (cell c (rAR (up c t))) 0 ∅ 0))) :=
  by_role_from _ c

theorem pos_final : (posAll (F := F) c (rounds c)) = iprop((atPos ER (cell c rBar) 1 ∅ 0 ∗ atPos ER (cell c rX) 1 ∅ 0) ∗ bigSep Finset.univ (fun k : Fin 4 => atPos ER (cell c (rW k)) 2 ∅ 0)
    ∗ (atPos ER (cell c (rDS c)) 0 ∅ 0 ∗ bigSep Finset.univ (fun t : Fin 7 => atPos ER (cell c (rDS (up c t))) 1 ∅ 0))
    ∗ (atPos ER (cell c (rDR c)) 0 ∅ 0 ∗ bigSep Finset.univ (fun t : Fin 7 => atPos ER (cell c (rDR (dn c t))) 1 ∅ 0))
    ∗ (atPos ER (cell c (rAS 7)) 0 ∅ 0 ∗ bigSep Finset.univ (fun t : Fin 7 => atPos ER (cell c (rAS t.castSucc)) 1 ∅ 0))
    ∗ (atPos ER (cell c (rAR c)) 0 ∅ 0 ∗ bigSep Finset.univ (fun t : Fin 7 => atPos ER (cell c (rAR (up c t))) 1 ∅ 0))) := by
  have hu : ∀ t : Fin 7, (if up c t ≠ c then 1 else 0) = 1 := fun t => if_pos (up_ne c t)
  have hd : ∀ t : Fin 7, (if dn c t ≠ c then 1 else 0) = 1 := fun t => if_pos (dn_ne c t)
  have hc : (if c ≠ c then 1 else 0) = 0 := if_neg fun h => h rfl
  have hl : ∀ t : Fin 7, (if t.castSucc.val < 7 then 1 else 0) = 1 := fun t => if_pos t.isLt
  unfold posAll
  rw [by_role_from _ c]
  unfold rounds
  dsimp only
  simp only [hu, hd, hc, hl]
  rfl

/-- The weights whole are the weight buffers' chunks. -/
theorem inputs_w : (pts c wH fullShare (m ((c : Thread nD τ).loc main_arg1)) : sProp 𝕄)
    = iprop(bigSep Finset.univ (fun k : Fin 4 => pts c (wCol (wDev c k 0)) fullShare (m ((c : Thread nD τ).loc main_arg1)))
      ∗ bigSep Finset.univ (fun k : Fin 4 => pts c (wCol (wDev c k 1)) fullShare (m ((c : Thread nD τ).loc main_arg1)))) := by
  rw [cut_w c fullShare _, rot_w (fun b => pts c (wCol b) fullShare (m ((c : Thread nD τ).loc main_arg1))) c, bigSep_sep']

theorem wst_start : iprop(bigSep Finset.univ (fun k : Fin 4 => some_ c (wbuf k)) ∗ bigSep Finset.univ (fun k : Fin 4 => atPos ER (cell c (rW k)) 0 ∅ 0)
      ∗ pts c wH fullShare (m ((c : Thread nD τ).loc main_arg1))
      ∗ bigSep Finset.univ (fun k : Fin 4 => dutyTok ER (cell c (rW k)) 0 0) ∗ bigSep Finset.univ (fun k : Fin 4 => dutyTok ER (cell c (rW k)) 1 0))
    ⊢ (bigSep Finset.univ (fun k : Fin 4 => wst m c k 0) : sProp 𝕄) := by
  rw [inputs_w]
  simp only [wst, bigSep_sep']
  iintro ⟨H1, H2, ⟨H3, H4⟩, H5, H6⟩
  iframe

theorem wst_final : (bigSep Finset.univ (fun k : Fin 4 => wst m c k 4) : sProp 𝕄)
    ⊢ iprop(bigSep Finset.univ (fun k : Fin 4 => some_ c (wbuf k)) ∗ bigSep Finset.univ (fun k : Fin 4 => atPos ER (cell c (rW k)) 2 ∅ 0)
      ∗ pts c wH fullShare (m ((c : Thread nD τ).loc main_arg1))) := by
  rw [inputs_w]
  simp only [wst, bigSep_sep']
  iintro ⟨⟨H1, H2⟩, H3, H4⟩
  iframe

theorem begin : iprop(owesX c (debt c 0 0 0) ∗ posAll c (fun _ => 0) ∗ payToks c ∗ credits c ∗ inputs m c ∗ working c ∗ some_ c outV)
    ⊢ iprop(start m c ∗ idle c ∗ some_ c (sRow c)) := by
  rw [pos_start]
  unfold payToks credits inputs working start idle
  rw [← four fun k => wst m c k 0]
  simp only [barRes, sendOwn, castOwn, rowRes, blkRes, bigSep_sep']
  iintro ⟨HO, ⟨⟨A1, A2⟩, A3, ⟨A4, A5⟩, ⟨A6, A7⟩, ⟨A8, A9⟩, ⟨A10, A11⟩⟩, ⟨T1, T2, ⟨T3, T4⟩, ⟨T5, T6⟩, ⟨T7, T8⟩⟩, ⟨C1, C2, C3⟩, ⟨X, Wt⟩,
    ⟨S1, S2, S3, S4, S5, S6, Ss, Sr, Sa⟩, So⟩
  ihave Ss := (((split_send (F := F) c).trans (Entails.of_eq (rot_up (fun b => some_ c (sRow b)) c)))) $$ Ss
  ihave Sr := (((split_recv (F := F) c).trans (Entails.of_eq (rot_up (fun b => some_ c (rRow b)) c)))) $$ Sr
  ihave Sa := (((split_amax (F := F) c).trans (Entails.of_eq (rot_up (fun b => some_ c (aRow b)) c)))) $$ Sa
  ihave So := (((split_out (F := F) c).trans (Entails.of_eq (rot_dn (fun b => some_ c (oSl b)) c)))) $$ So
  icases Ss with ⟨Ss, Sss⟩
  icases Sr with ⟨Sr, Srs⟩
  icases Sa with ⟨Sa, Sas⟩
  icases So with ⟨So, Sos⟩
  ihave Ws := (wst_start m c) $$ [S3 S4 S5 S6 A3 Wt T3 T4]
  · isplitl [S3 S4 S5 S6]
    · iapply (Entails.of_eq (four fun k => some_ (F := F) c (wbuf k)).symm); iframe
    iframe
  iframe

/-- The buffers of the last step, rejoined. -/
theorem join_out : iprop(bigSep Finset.univ (fun t : Fin 7 => holds c (oSl (dn c t)) (outBlk m c (dn c t))) ∗ holds c (oSl c) (outBlk m c c))
    ⊢ (pts c outV fullShare (outAt m c) : sProp 𝕄) := by
  rw [cut_out c fullShare _, rot_dn (fun b => pts c (oSl b) fullShare (outAt m c)) c]
  have h : ∀ b, (holds c (oSl b) (outBlk m c b) : sProp 𝕄) ⊢ pts c (oSl b) fullShare (outAt m c) := fun b => by
    rw [← read_out]; exact holds_pts _ _ _
  iintro ⟨H1, H2⟩
  isplitl [H2]
  · iapply (h c) $$ H2
  iapply (show bigSep Finset.univ (fun t : Fin 7 => holds c (oSl (dn c t)) (outBlk m c (dn c t))) ⊢ (bigSep Finset.univ (fun t : Fin 7 => pts c (oSl (dn c t)) fullShare (outAt m c)) : sProp 𝕄)
    from bigSep_mono fun t _ => h _) $$ H1

theorem rejoin_recv : iprop(bigSep Finset.univ (fun t : Fin 7 => holds c (rRow (dn c t)) (ybAt m (dn c t) c)) ∗ holds c (rRow c) (ybAt m c c)) ⊢ (some_ c recvV : sProp 𝕄) := by
  refine BIBase.Entails.trans ?_ (join_recv c m)
  rw [rot_dn (fun b => some_ c (rRow b)) c]
  iintro ⟨H1, H2⟩
  isplitl [H2]
  · iapply (holds_some _ _ _) $$ H2
  iapply (show bigSep Finset.univ (fun t : Fin 7 => holds c (rRow (dn c t)) (ybAt m (dn c t) c)) ⊢ (bigSep Finset.univ (fun t : Fin 7 => some_ c (rRow (dn c t))) : sProp 𝕄)
    from bigSep_mono fun t _ => holds_some _ _ _) $$ H1

theorem rejoin_amax : iprop(bigSep Finset.univ (fun t : Fin 7 => pts c (aRow (up c t)) fullShare (tab m)) ∗ pts c (aRow c) keep (tab m)
    ∗ bigSep Finset.univ (fun t : Fin 7 => pts c (aRow c) (tokShare t) (tab m))) ⊢ (some_ c amaxV : sProp 𝕄) := by
  refine BIBase.Entails.trans ?_ (pts_some c amaxV (tab m))
  rw [cut_amax c fullShare _, rot_up (fun b => pts c (aRow b) fullShare (tab m)) c, row_lend c (tab m)]
  iintro ⟨H1, H2, H3⟩
  iframe

theorem finish : iprop(final m c ∗ idle c ∗ some_ c (sRow c))
    ⊢ iprop(owesX c 0 ∗ posAll c (rounds c) ∗ inputs m c ∗ working c ∗ pts c outV fullShare (outAt m c)) := by
  rw [pos_final]
  unfold inputs working final idle
  rw [← four fun k => wst m c k 4]
  simp only [sentDone, goneDone, rowPos, blkDone, bigSep_sep']
  iintro ⟨⟨HO, A1, ⟨X, S1, A2, S2⟩, Ws, ⟨⟨A5, Sss⟩, A9, Tk⟩, ⟨A11, Sas, Sa⟩, ⟨A7, Srs, Sos⟩, Sr, So⟩, ⟨A4, A6, A8, A10⟩, Ss⟩
  ihave Ws := (wst_final m c) $$ Ws
  icases Ws with ⟨S3, A3, Wt⟩
  ihave S3 := (Entails.of_eq (four fun k => some_ (F := F) c (wbuf k))) $$ S3
  icases S3 with ⟨S3, S4, S5, S6⟩
  ihave So := (join_out m c) $$ [Sos So]; · iframe
  ihave Sr := (rejoin_recv m c) $$ [Srs Sr]; · iframe
  ihave Sa := (rejoin_amax m c) $$ [Sas Sa Tk]; · iframe
  ihave Ss := (BIBase.Entails.trans (Entails.of_eq (rot_up (fun b => some_ c (sRow b)) c).symm) (join_send c m)) $$ [Sss Ss]; · iframe
  ihave S2 := (holds_some _ _ _) $$ S2
  iframe

/-- Every cell done gives its counter back at zero. -/
theorem close (K : Dev nD × Role → ℕ) : iprop(ctx m K ∗ posAll c (rounds c)) ⊢ |={Set.univ}=> (bigSep Finset.univ fun ro : Role => (semVal (cell c ro) 0 : sProp 𝕄)) := by
  refine BIBase.Entails.trans ?_ (bigSep_fupd _ _)
  unfold posAll
  refine BI.bigSep_with_persistent fun ro _ => ?_
  refine BIBase.Entails.trans ?_ (Rounds.cell_close ER (rd m) (Set.mem_univ (K (c, ro))) (fun h => h) (R := rounds c ro) (duties_after m c ro))
  exact sep_mono_left (ctx_inv m K c ro)

end Cert.KernelIdeal.A2A

end
-- ==== Proof.Oblig.lean ====
module

public import proofs.«01_k».proof.Proof.Ends

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation cellOf)

/-! The whole run of one device's kernel, from its buffers whole to its buffers whole and its counters at zero. -/

variable (m : Mem0 F)

/-- What the kernel on device `c` starts from. -/
def before (c : Dev nD) : sProp 𝕄 := iprop((∃ K, ctx m K) ∗ posAll c (fun _ => 0) ∗ payToks c ∗ credits c ∗ inputs m c ∗ working c)
/-- What it leaves. -/
def after (c : Dev nD) : sProp 𝕄 := iprop((bigSep Finset.univ fun ro : Role => semVal (cell c ro) 0) ∗ inputs m c ∗ working c)

theorem run_body (c : Dev nD) (t : Fin cfg0.N) :
    iprop(before m c ∗ owesX c (debt c 0 0 0) ∗ some_ c outV)
      ⊢ wp frame (wpE (defs₀ (F := F)) 𝒱₀ (c : Thread nD τ) none) Set.univ (bodyAt0 t)
          (fun _ => iprop(after m c ∗ owesX c 0 ∗ pts c outV fullShare (outAt m c))) := by
  rw [body_shape, show (Prog.lift .deviceId >>= fun c => bodyP c : KProg F PUnit) = .op .deviceId fun c => bodyP c from rfl, wp_deviceId]
  unfold before
  iintro ⟨⟨⟨%K, #Hctx⟩, H1, H2, H3, H4, H5⟩, HO, Hout⟩
  ihave Hs := (begin m c) $$ [HO H1 H2 H3 H4 H5 Hout]; · iframe
  iapply (wp_fupd frame (wpE (defs₀ (F := F)) 𝒱₀ (c : Thread nD τ) none) Set.univ (bodyP c) _)
  iapply (show iprop(ctx m K ∗ (ctx m K ∗ start m c ∗ idle c ∗ some_ c (sRow c))) ⊢ wp frame (wpE (defs₀ (F := F)) 𝒱₀ (c : Thread nD τ) none) Set.univ (bodyP c)
      (fun _ => iprop(|={Set.univ}=> (after m c ∗ owesX c 0 ∗ pts c outV fullShare (outAt m c)))) from by
    refine ((tri_body (m := m) (K := K) (c := c)).with (R := iprop(ctx m K ∗ idle c ∗ some_ c (sRow c)))).mono ?_ fun _ => ?_
    · iintro ⟨H1, H2, H3⟩; iframe
    · iintro ⟨H1, #Hc, H2, H3⟩
      ihave H := (finish m c) $$ [H1 H2 H3]; · iframe
      icases H with ⟨HO, Hp, Hi, Hw, Hout⟩
      imod (close m c K) $$ [Hp] with Hz
      · isplitr; · iexact Hc
        iexact Hp
      imodintro
      unfold after
      iframe) $$ [Hs]
  isplitr; · iexact Hctx
  isplitr; · iexact Hctx
  iexact Hs

variable (ρ : Dev nD → PrngReg)

/-- What the run is about: the one output window, its array as launched and then the device's block of the result. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => before m c
    | ⟨_ + 1, _⟩ => after m c
  q _ := fullShare
  owed t := match t with
    | ⟨0, _⟩ => debt c 0 0 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem pts_whole (c : Dev nD) (b : Ref sig .tc) (q : PosShare TreeShare) (f : Buf (Elt F) ((c : Thread nD τ).loc b)) :
    (pts c (Memref.whole b) q f : sProp 𝕄) = (((c : Thread nD τ).loc b) ↦{q} f) := by
  unfold pts; simp only [Memref.view_whole, View.set_whole]

omit [FloatOps F] in
theorem some_whole (c : Dev nD) (b : Ref sig .tc) :
    (some_ c (Memref.whole b) : sProp 𝕄) = iprop(∃ f : Buf (Elt F) ((c : Thread nD τ).loc b), ((c : Thread nD τ).loc b) ↦{fullShare} f) := by
  unfold some_; simp only [pts_whole]

set_option maxRecDepth 100000 in
set_option maxHeartbeats 2000000 in
/-- The library's body obligation. -/
theorem body_obligation (c : Dev nD) : BodyObligation (dats (F := F) m 0 c) (defs₀ (F := F)) 𝒱₀ () Set.univ := fun t => by
  obtain rfl := fin_N0 t
  rw [bigSep_W0, bigSep_W0]
  show iprop(before m c ∗ (dats (F := F) m 0 c).owesAt () t0_0.castSucc ∗ (∃ d, owns (c : Thread nD τ) outV fullShare ((dats (F := F) m 0 c).before (0 : Fin 1) t0_0 d)))
    ⊢ wp frame (wpE (defs₀ (F := F)) 𝒱₀ (c : Thread nD τ) none) Set.univ (bodyAt0 t0_0)
      (fun _ => iprop(after m c ∗ (dats (F := F) m 0 c).owesAt () t0_0.succ ∗ owns (c : Thread nD τ) outV fullShare (outAt m c)))
  refine BIBase.Entails.trans ?_ ((run_body m c t0_0).trans (wp_mono frame (wpE (defs₀ (F := F)) 𝒱₀ (c : Thread nD τ) none) Set.univ fun _ => ?_))
  · rw [show (some_ c outV : sProp 𝕄) = _ from some_whole c cc0_stg0_0]
    unfold Dat.owesAt Pipeline.owesWithin owesX
    iintro ⟨H1, ⟨%W, -, H2⟩, ⟨%d, H3⟩⟩
    ihave H3 := (Entails.of_eq (owns_whole_eq c cc0_stg0_0 _)) $$ H3
    icases H3 with ⟨%f, -, H3⟩
    isplitl [H1]; · iexact H1
    isplitl [H2]; · iexists W; iexact H2
    iexists f; iexact H3
  · rw [show (pts c outV fullShare (outAt m c) : sProp 𝕄) = _ from pts_whole c cc0_stg0_0 _ _]
    unfold Dat.owesAt Pipeline.owesWithin owesX
    iintro ⟨H1, ⟨%W, H2⟩, H3⟩
    isplitl [H1]; · iexact H1
    isplitl [H2]
    · iexists W
      isplitr; · ipureintro; exact fun _ _ => Or.inl trivial
      iexact H2
    iapply (Entails.of_eq (owns_whole_eq c cc0_stg0_0 _).symm)
    iexists _
    isplitr; · ipureintro; rfl
    iexact H3

end Cert.KernelIdeal.A2A

end
-- ==== Proof.Launch.lean ====
module

public import proofs.«01_k».proof.Proof.Oblig
public import Idealize.ShloMosaic.Lib.Pipeline.CollectiveSegs

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation cellOf)

/-! The launch of the eight devices: the cells opened, the duties dealt to the devices that pay them, the credits. -/

/-! ## The semaphores -/

/-- The kernel's own semaphores: those of every role but the barrier's. -/
abbrev Own : Type := Unit ⊕ Fin 4 ⊕ Dev nD ⊕ Dev nD ⊕ Dev nD ⊕ Dev nD
abbrev ownRole : Own → Role | .inl _ => rX | .inr r => .inr r
abbrev osem (o : Own) : SemLoc sig := csem (ownRole o)

theorem ownSemFacts : Pipeline.OwnSemFacts cfg0.spec osem := by decide

omit [FloatOps F] in
theorem unscopedSems0_eq (c : Dev nD) : (unscopedSems0 c : sProp 𝕄) = semVal (cell c rBar) 0 := by
  unfold unscopedSems0; rw [bigSep_eq_bigSepL_of_eq [SemLoc.reg barA.sem] (by decide) (by decide)]; rfl

omit [FloatOps F] in
theorem turn (A B C : sProp (MT nD τ sig Unit (Elt F) ℕ UU ℕ)) : iprop((A ∗ B) ∗ C) = iprop((B ∗ C) ∗ A) :=
  BI.equiv_iff.mp ⟨show iprop((A ∗ B) ∗ C) ⊢ iprop((B ∗ C) ∗ A) from by iintro ⟨⟨H1, H2⟩, H3⟩; iframe,
    show iprop((B ∗ C) ∗ A) ⊢ iprop((A ∗ B) ∗ C) from by iintro ⟨⟨H2, H3⟩, H1⟩; iframe⟩
omit [FloatOps F] in
/-- The counters of all the roles are the kernel's own and the barrier's. -/
theorem sems0_eq (c : Dev nD) :
    (bigSep Finset.univ fun ro : Role => (semVal (cell c ro) 0 : sProp 𝕄))
      = iprop(Pipeline.ownSems0 (Ix := Unit) (Name := ℕ) (U := UU) (Lvl := ℕ) (Val := Elt F) (τ := τ) osem c ∗ unscopedSems0 c) := by
  rw [unscopedSems0_eq, show (Pipeline.ownSems0 (Ix := Unit) (Name := ℕ) (U := UU) (Lvl := ℕ) (Val := Elt F) (τ := τ) osem c : sProp 𝕄)
      = bigSep Finset.univ (fun o : Own => semVal (cell c (ownRole o)) 0) from rfl,
    BI.bigSep_univ_sum (fun o : Own => (semVal (cell c (ownRole o)) 0 : sProp 𝕄)), BI.bigSep_univ_sum (fun ro : Role => (semVal (cell c ro) 0 : sProp 𝕄)),
    bigSep_univ_eq_bigSepL [false, true] (by decide) (by decide), bigSep_univ_eq_bigSepL [()] (by decide) (by decide)]
  show iprop((semVal (cell c rBar) 0 ∗ semVal (cell c rX) 0) ∗ _) = iprop((semVal (cell c rX) 0 ∗ _) ∗ semVal (cell c rBar) 0)
  exact turn _ _ _

/-! ## The cells and the duties -/

abbrev kcell (ck : Dev nD × Role) : GSem nD τ sig := cell ck.1 ck.2
theorem kcell_injective : Function.Injective kcell := fun ⟨_, _⟩ ⟨_, _⟩ h => Prod.ext (cell_inj h).1 (cell_inj h).2
def allCells : Finset (GSem nD τ sig) := Finset.univ.map ⟨kcell, kcell_injective⟩

/-- The kinds of duty that a device pays, with its number within its kind. -/
abbrev Kind : Type := Fin 7 ⊕ Unit ⊕ Fin 4 ⊕ Fin 4 ⊕ Fin 7 ⊕ Fin 7 ⊕ Fin 7 ⊕ Fin 7
/-- The cell, the round and the name of a duty. -/
abbrev dutyAt (c : Dev nD) : Kind → (Dev nD × Role) × ℕ × Dev nD
  | .inl t => ((up c t, rBar), 0, c)
  | .inr (.inl _) => ((c, rX), 0, 0)
  | .inr (.inr (.inl k)) => ((c, rW k), 0, 0)
  | .inr (.inr (.inr (.inl k))) => ((c, rW k), 1, 0)
  | .inr (.inr (.inr (.inr (.inl t)))) => ((c, rDS (up c t)), 0, 0)
  | .inr (.inr (.inr (.inr (.inr (.inl t))))) => ((up c t, rDR c), 0, 0)
  | .inr (.inr (.inr (.inr (.inr (.inr (.inl t)))))) => ((c, rAS t.castSucc), 0, 0)
  | .inr (.inr (.inr (.inr (.inr (.inr (.inr t)))))) => ((up c t, rAR c), 0, 0)

theorem dutyAt_injective : Function.Injective (fun ck : Dev nD × Kind => dutyAt ck.1 ck.2) := by
  rintro ⟨c, k⟩ ⟨c', k'⟩ h
  rcases k with t | _ | t | t | t | t | t | t <;> rcases k' with t' | _ | t' | t' | t' | t' | t' | t' <;>
    simp only [dutyAt, Prod.mk.injEq, Sum.inl.injEq, Sum.inr.injEq, reduceCtorEq, and_true, and_false, false_and, true_and, zero_ne_one, one_ne_zero] at h
  · obtain ⟨h, rfl⟩ := h; rw [up_inj c h]
  · rw [h]
  · rw [h.1, h.2]
  · rw [h.1, h.2]
  · obtain ⟨rfl, h⟩ := h; rw [up_inj c h]
  · obtain ⟨h, rfl⟩ := h; rw [up_inj c h]
  · rw [h.1, Fin.castSucc_injective 7 h.2]
  · obtain ⟨h, rfl⟩ := h; rw [up_inj c h]

abbrev dutyTok' (x : (Dev nD × Role) × ℕ × Dev nD) : GSem nD τ sig × ℕ × Dev nD := (kcell x.1, x.2)
theorem dutyTok'_injective : Function.Injective dutyTok' := fun ⟨_, _⟩ ⟨_, _⟩ h =>
  Prod.ext (kcell_injective (Prod.mk.inj h).1) (Prod.mk.inj h).2
abbrev tokOf (ck : Dev nD × Kind) : GSem nD τ sig × ℕ × Dev nD := dutyTok' (dutyAt ck.1 ck.2)
theorem tokOf_injective : Function.Injective tokOf := dutyTok'_injective.comp dutyAt_injective
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

variable (m : Mem0 F)

/-- What the launch deals device `c`. -/
def G (c : Dev nD) : sProp 𝕄 :=
  iprop((bigSep Finset.univ fun ro : Role => roundState ER (rd m) (cell c ro) 0)
    ∗ (posAll c (fun _ => 0) ∗ bigSep Finset.univ fun ro : Role => reached ER (cell c ro) 0) ∗ payToks c)
/-- What opening the cells makes of it. -/
def G' (c : Dev nD) : sProp 𝕄 := iprop((∃ K, records m K) ∗ posAll c (fun _ => 0) ∗ payToks c)

omit [FloatOps F] in
theorem pay_kinds (c : Dev nD) : (bigSep Finset.univ fun k : Kind => (dutyTok ER (tokOf (c, k)).1 (tokOf (c, k)).2.1 (tokOf (c, k)).2.2 : sProp 𝕄)) ⊢ payToks c := by
  unfold payToks
  rw [BI.bigSep_univ_sum, BI.bigSep_univ_sum, BI.bigSep_univ_sum, BI.bigSep_univ_sum, BI.bigSep_univ_sum, BI.bigSep_univ_sum, BI.bigSep_univ_sum,
    bigSep_univ_eq_bigSepL [()] (by decide) (by decide)]
  show iprop(_ ∗ dutyTok ER (cell c rX) 0 0 ∗ _ ∗ _ ∗ _ ∗ _ ∗ _ ∗ _) ⊢ _
  iintro ⟨H1, H2, H3, H4, H5, H6, H7, H8⟩
  isplitl [H1]; · iexact H1
  isplitl [H2]; · iexact H2
  isplitl [H3 H4]
  · isplitl [H3]; · iexact H3
    iexact H4
  isplitl [H5 H6]
  · isplitl [H5]; · iexact H5
    iexact H6
  isplitl [H7]; · iexact H7
  iexact H8

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun ro : Role => Φ (cell c ro) := by
    unfold allCells; rw [bigSep_map, bigSep_univ_prod]; rfl
  have hT : bigSep allToks (fun x => (dutyTok ER x.1 x.2.1 x.2.2 : sProp 𝕄)) ⊢ bigSep Finset.univ fun c : Dev nD => payToks c := by
    unfold allToks; rw [bigSep_map, bigSep_univ_prod]
    exact bigSep_mono fun c _ => pay_kinds c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G posAll; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ro : Role => iprop(∃ κ : ℕ, cellInv ER (rd m) κ (cell c ro)))
          ∗ (posAll c (fun _ => 0) ∗ bigSep Finset.univ fun ro : Role => reached ER (cell c ro) 0) ∗ payToks c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun ro : Role => semVal (cell c ro) 0) ∗ bigSep Finset.univ fun ro : Role => roundState ER (rd m) (cell c ro) 0)
      ⊢ (|={Set.univ}=> bigSep Finset.univ fun ro : Role => iprop(∃ κ : ℕ, cellInv ER (rd m) κ (cell c ro)) : sProp 𝕄) from by
        rw [← bigSep_sep']
        exact (bigSep_mono fun ro _ => (Rounds.body_intro ER (rd m) (cell c ro)).trans inv_alloc).trans (bigSep_fupd _ _)) $$ [Hv Hst] with Hinv
  · isplitl [Hv] <;> iassumption
  imodintro
  isplitl [Hinv]; · iexact Hinv
  isplitl [Hat]; · iexact Hat
  iexact Htok

theorem share_out (K : Dev nD × Role → ℕ) (c : Dev nD) : iprop(records m K ∗ (posAll c (fun _ => 0) ∗ payToks c)) ⊢ G' m c := by
  unfold G'
  iintro ⟨H, H1, H2⟩
  isplitl [H]; · iexists K; iexact H
  isplitl [H1]; · iexact H1
  iexact H2

theorem regroup :
    (bigSep Finset.univ fun c : Dev nD => iprop((bigSep Finset.univ fun ro : Role => iprop(∃ κ : ℕ, cellInv ER (rd m) κ (cell c ro)))
          ∗ (posAll c (fun _ => 0) ∗ bigSep Finset.univ fun ro : Role => reached ER (cell c ro) 0) ∗ payToks c) : sProp 𝕄)
      ⊢ bigSep Finset.univ (G' m) := by
  rw [bigSep_sep', bigSep_sep', bigSep_sep', ← bigSep_univ_prod (fun ck : Dev nD × Role => iprop(∃ κ : ℕ, cellInv ER (rd m) κ (kcell ck))),
    ← bigSep_univ_prod (fun ck : Dev nD × Role => (reached ER (kcell ck) 0 : sProp 𝕄))]
  iintro ⟨HI, ⟨Hat, #HR⟩, Htok⟩
  ihave HK := (BI.bigSep_exists_pi Finset.univ (fun (ck : Dev nD × Role) (κ : ℕ) => (cellInv ER (rd m) κ (kcell ck) : sProp 𝕄))) $$ HI
  icases HK with ⟨%K, #HI⟩
  iapply (BI.bigSep_with_persistent (R := records m K) fun c _ => share_out m K c)
  isplitr
  · unfold records; isplitl; · iexact HI
    iexact HR
  rw [bigSep_sep']
  isplitl [Hat]; · iexact Hat
  iexact Htok

/-- All the cells opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem rest_zero {A : Type} [AddCommMonoid A] (f : Fin 7 → A) : rest f 0 = ∑ t, f t := by
  unfold rest; rw [Finset.filter_true_of_mem fun _ _ => Nat.zero_le _]

theorem tally_at (p c : Dev nD) (ro ro' : Role) (n : ℕ) : (tallyAt (cell p ro) () n : CellTallies nD τ sig Unit) (cell c ro') () = if p = c ∧ ro = ro' then n else 0 := by
  rw [tallyAt_apply]
  refine if_congr ⟨fun h => ?_, fun h => ?_⟩ rfl rfl
  · exact ⟨(cell_inj h.1).1.symm, (cell_inj h.1).2.symm⟩
  · exact ⟨by rw [h.1, h.2], rfl⟩

/-- What device `d` owes a cell of device `c` at launch. -/
theorem debt_at (d c : Dev nD) (ro : Role) : debt d 0 0 0 (cell c ro) ()
    = (∑ t, if up d t = c ∧ rAR d = ro then NA else 0) + (∑ t, if up d t = c ∧ rDR d = ro then NB else 0) + ∑ t, if up d t = c ∧ rBar = ro then 1 else 0 := by
  unfold debt owA owD owB
  rw [rest_zero, rest_zero, rest_zero, Pi.add_apply, Finsupp.add_apply, Pi.add_apply, Finsupp.add_apply]
  simp only [Finset.sum_apply, Finsupp.finset_sum_apply, tally_at]

theorem count_bar (c : Dev nD) : (∑ d : Dev nD, ∑ t : Fin 7, if up d t = c then 1 else 0) = 7 := by revert c; decide
theorem count_dn (c : Dev nD) (u : Fin 7) (n : ℕ) : (∑ d : Dev nD, ∑ t : Fin 7, if up d t = c ∧ d = dn c u then n else 0) = n := by
  have h : (∑ d : Dev nD, ∑ t : Fin 7, if up d t = c ∧ d = dn c u then 1 else 0) = 1 := by revert c u; decide
  conv_rhs => rw [← Nat.one_mul n, ← h]
  simp only [Finset.sum_mul, ite_mul, one_mul, zero_mul]
theorem count_up (c : Dev nD) (u : Fin 7) (n : ℕ) : (∑ d : Dev nD, ∑ t : Fin 7, if up d t = c ∧ d = up c u then n else 0) = n := by
  have h : (∑ d : Dev nD, ∑ t : Fin 7, if up d t = c ∧ d = up c u then 1 else 0) = 1 := by revert c u; decide
  conv_rhs => rw [← Nat.one_mul n, ← h]
  simp only [Finset.sum_mul, ite_mul, one_mul, zero_mul]

/-- What the devices together owe a cell at launch, as a credit. -/
theorem launch_at (c : Dev nD) (ro : Role) (n : ℕ) (h : (∑ d : Dev nD, debt d 0 0 0 (cell c ro) ()) = n) :
    tallyOn (cell c ro) (launchCredit (Pipeline.owing fun d => debt d 0 0 0) 0 (cell c ro)) = (tallyAt (cell c ro) () n : CellTallies nD τ sig Unit) := by
  unfold tallyAt; refine congrArg _ (Finsupp.ext fun u => ?_); cases u
  rw [Pipeline.launchCredit_owing, Finsupp.single_eq_same, h]

theorem launch_bar (c : Dev nD) : (∑ d : Dev nD, debt d 0 0 0 (cell c rBar) ()) = 7 := by
  rw [Finset.sum_congr rfl fun d _ => debt_at d c rBar]
  simpa using count_bar c
theorem launch_blk (c : Dev nD) (u : Fin 7) : (∑ d : Dev nD, debt d 0 0 0 (cell c (rDR (dn c u))) ()) = NB := by
  rw [Finset.sum_congr rfl fun d _ => debt_at d c _]
  simpa using count_dn c u NB
theorem launch_row (c : Dev nD) (u : Fin 7) : (∑ d : Dev nD, debt d 0 0 0 (cell c (rAR (up c u))) ()) = NA := by
  rw [Finset.sum_congr rfl fun d _ => debt_at d c _]
  simpa using count_up c u NA

theorem creds (c : Dev nD) : (Pipeline.launchCred (fun d => debt d 0 0 0) c : sProp 𝕄) ⊢ credits c := by
  unfold Pipeline.launchCred credits
  refine BIBase.Entails.trans (show _ ⊢ _ from BI.bigSep_subset (Finset.subset_univ (Finset.univ.map ⟨csem, csem_injective⟩))) ?_
  rw [bigSep_map]
  refine BIBase.Entails.trans (Entails.of_eq (by_role_from (fun ro : Role =>
    (cred (tallyOn (cell c ro) (launchCredit (Pipeline.owing fun d => debt d 0 0 0) 0 (cell c ro))) : sProp 𝕄)) c)) ?_
  simp only [launch_at c rBar 7 (launch_bar c), launch_at c _ NB (launch_blk c _), launch_at c _ NA (launch_row c _)]
  iintro ⟨⟨H1, -⟩, -, -, ⟨-, H2⟩, -, -, H3⟩
  iframe

/-! ## The run -/

variable (ρ : Dev nD → PrngReg)

/-- What device `c` enters the kernel with. -/
def entry (c : Dev nD) : sProp 𝕄 := iprop((∃ K, ctx m K) ∗ posAll c (fun _ => 0) ∗ payToks c ∗ credits c ∗ inputs m c)

theorem start_intro (c : Dev nD) :
    iprop(Pipeline.unscopedRestP Pipeline.Prefetch.none cfg0.spec c (fun b => m ((c : Thread nD τ).loc b)) ∗ levAts L lv
        ∗ Pipeline.launchCred (fun d => debt d 0 0 0) c ∗ prngReg c (ρ c) ∗ G' m c)
      ⊢ |={Set.univ}=> iprop(entry m c ∗ emp) := by
  rw [Pipeline.unscopedRestP_none, unscopedRest0_eq]
  unfold entry G' inputs ctx
  rw [pts_whole, pts_whole]
  iintro ⟨⟨Hx, Hw⟩, Hlev, Hcr, -, ⟨⟨%K, HK⟩, Hp, Ht⟩⟩
  ihave Hc := (creds (F := F) c) $$ Hcr
  imodintro
  isplitl
  · isplitl [HK Hlev]
    · iexists K; iframe
    iframe
  · iempintro

theorem phi0_intro (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before entry working
  simp only [some_whole]
  iintro ⟨⟨H1, H2, H3, H4, H5⟩, -, H6⟩
  iframe

/-- What device `c` leaves outside the kernel. -/
def exit (c : Dev nD) : sProp 𝕄 := iprop(unscopedSems0 c ∗ inputs m c)

theorem phi1_exit (c : Dev nD) :
    (dats m 0 c).Φ (Fin.last cfg0.N) ⊢ iprop(exit m c ∗ Pipeline.ownSems0 osem c ∗ Pipeline.scopedRest cfg0.spec c) := by
  rw [show (dats m 0 c).Φ (Fin.last cfg0.N) = after m c from rfl, scopedRest0_eq]
  unfold after exit working
  rw [sems0_eq]
  simp only [some_whole]
  iintro ⟨⟨H1, H2⟩, H3, H4⟩
  iframe

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t => by
    have h : levOf (roleOf (.dma (((cfgs 0).win w).sem s))) = 0 := by fin_cases w; fin_cases s; rfl
    rcases t with ⟨_ | _, ht⟩
    · exact mayWait_low c _ h 0 0 0
    · exact mayWait_none _

/-- The result array when the kernel is done. -/
def finalA (c : Dev nD) : Buf (Elt F) ((cfg0.win (0 : Fin 1)).arr.view.loc (c : Thread nD τ)) := (dats m 0 c).arrAt (0 : Fin 1) cfg0.N

theorem inputs_read (c : Dev nD) (s' : Phys nD τ sig (Elt F)) :
    iprop(inputs m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') : sProp 𝕄) := by
  unfold inputs
  rw [pts_whole, pts_whole]
  iintro ⟨⟨Hx, Hw⟩, HSI⟩
  icombine HSI Hx gives %hx
  icombine HSI Hw gives %hw
  isplitr
  · ipureintro; exact ⟨Buf.eq_of_forall_mem_univ hx, Buf.eq_of_forall_mem_univ hw⟩
  iexact HSI

set_option maxRecDepth 8000 in
/-- From any memory with zero counters, every execution of the eight kernels ends, with the result arrays as computed,
    the arguments unchanged and every counter at zero; for any float values. -/
theorem run_main : θ_run defs (onTc (τ := τ) (main (F := F))) ⟨m, fun _ => 0, ρ⟩ (fun r =>
    (∀ c : Dev nD, r.2.mem ((c : Thread nD τ).loc main_v1) = finalA m c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := fun d => debt d 0 0 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := entry m) (Y := exit m) (Z := fun _ => iprop(emp))
    (hX := start_intro m ρ) (hin := phi0_intro m) (hout := phi1_exit m)
    (QY := fun c s => (s.mem ((c : Thread nD τ).loc main_arg0) = m ((c : Thread nD τ).loc main_arg0)
      ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold exit
      iintro ⟨⟨Hu, Hi⟩, -, HSI⟩
      ihave H := (inputs_read m c s') $$ [Hi HSI]
      · isplitl [Hi] <;> iassumption
      icases H with ⟨%hi, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hi, hs⟩
      iexact HSI)
    (hQ := fun _ h hs => ⟨fun c => ⟨(h c).1 0, (h c).2.2.1⟩, sem_eq_zero hs fun c => (h c).2.2.2⟩)

/-- The run, of the arguments and the counters alone. -/
theorem frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => (h.1 c).2, h.2⟩) (run_main m ρ)

end Cert.KernelIdeal.A2A

end
-- ==== Proof.Same.lean ====
module

public import proofs.«01_k».proof.Proof.Launch
public import proofs.«01_k».proof.Proof.Gen.Kernel.Frame

/-!
The kernel as printed for bit patterns and as printed for extended reals is one program text over the
float values. Its table of bodies is matched case by case here, so that the run proved of the one is
the run of the other.
-/

public section

namespace Cert.KernelIdeal.A2A
open Idealize.ShloMosaic Cert

variable {F : FTy → Type} [FloatOps F]

local instance : Cert.Kernel.Facts := Cert.Kernel.Gen.facts

/-- The bodies of the two printings agree. -/
theorem bodies_same : (Cert.Kernel.defs₀ (F := F)) = Cert.KernelIdeal.defs₀ (F := F) := by
  show Defs.onTc _ = Defs.onTc _
  refine congrArg Defs.onTc ?_
  funext l x
  match l, x with
  | 0, (t, s) => exact rfl

/-- So do the tables with the launch's region and pipeline added. -/
theorem defs_same : (Cert.Kernel.defs (F := F)) = Cert.KernelIdeal.defs (F := F) := by
  show Pipeline.defs _ Cert.Kernel.defs₀ = Pipeline.defs _ Cert.KernelIdeal.defs₀
  rw [bodies_same]

end Cert.KernelIdeal.A2A
-- ==== Proof.Quant.lean ====
/- The quantiser over the extended reals: multiplying by `448 / a` and clipping above is dividing by `a / 448` and clipping on
   both sides, for an entry between zero and the largest entry `a`, whatever `a` is. -/
module

public import Idealize.ShloMosaic.PureOps.Ideal
public import Idealize.ShloMosaic.PureOps.Ideal.Laws

@[expose] public section

noncomputable section

namespace Cert.Quant

open Idealize.ShloMosaic

/-- The largest code, the smallest, and the start of a maximum, as the words that the programs spell. -/
theorem top_word : Ideal.ofBits .f32 0x43E00000#32 = ((448 : ℝ) : EReal) := by
  simp [Ideal.ofBits, Ideal.ieee]
  rw [← EReal.coe_mul]
  norm_num
theorem bot_word : Ideal.ofBits .f32 0xC3E00000#32 = ((-448 : ℝ) : EReal) := by
  simp [Ideal.ofBits, Ideal.ieee]
  rw [← EReal.coe_mul]
  norm_num
theorem start_word : Ideal.ofBits .f32 0xFF800000#32 = ⊥ := by
  simp [Ideal.ofBits, Ideal.ieee]

/-- Division by a positive real. -/
theorem div_real (x : EReal) {r : ℝ} (h : 0 < r) : Ideal.div x (r : EReal) = x * ((r⁻¹ : ℝ) : EReal) := by
  unfold Ideal.div
  rw [if_neg (by simpa using h.ne'), EReal.coe_inv]

/-- The two quantisers agree: at a real largest entry above zero, -/
theorem quant_real {k r y : ℝ} (hk : 0 < k) (hr : 0 < r) (hy : 0 ≤ y) :
    min ((y : EReal) * Ideal.div (k : EReal) (r : EReal)) (k : EReal)
      = min (k : EReal) (max ((-k : ℝ) : EReal) (Ideal.div (y : EReal) (Ideal.div (r : EReal) (k : EReal)))) := by
  have hs : 0 < r * k⁻¹ := mul_pos hr (inv_pos.mpr hk)
  rw [div_real _ hr, div_real _ hk, ← EReal.coe_mul, ← EReal.coe_mul, ← EReal.coe_mul, div_real _ hs, ← EReal.coe_mul,
    show y * (r * k⁻¹)⁻¹ = y * (k * r⁻¹) from by rw [mul_inv, inv_inv]; ring, max_eq_right, min_comm]
  exact EReal.coe_le_coe_iff.mpr ((neg_nonpos.mpr hk.le).trans (mul_nonneg hy (mul_nonneg hk.le (inv_pos.mpr hr).le)))

/-- and in every case once multiplied by the scale. -/
theorem quant_eq {k : ℝ} (hk : 0 < k) {y a : EReal} (hy : 0 ≤ y) (ha : y ≤ a) :
    min (y * Ideal.div (k : EReal) a) (k : EReal) * Ideal.div a (k : EReal)
      = min (k : EReal) (max ((-k : ℝ) : EReal) (Ideal.div y (Ideal.div a (k : EReal)))) * Ideal.div a (k : EReal) := by
  induction a using EReal.rec with
  | bot => exact absurd (hy.trans ha) (by simp)
  | top =>
    have h0 : Ideal.div (k : EReal) ⊤ = 0 := by unfold Ideal.div; simp
    have h1 : Ideal.div ⊤ (k : EReal) = ⊤ := by rw [div_real _ hk, EReal.top_mul_coe_of_pos (inv_pos.mpr hk)]
    have h2 : Ideal.div y ⊤ = 0 := by unfold Ideal.div; simp
    have h3 : (0 : EReal) ≤ k := by exact_mod_cast hk.le
    have h4 : ((-k : ℝ) : EReal) ≤ 0 := by exact_mod_cast neg_nonpos.mpr hk.le
    rw [h0, h1, h2, mul_zero, min_eq_left h3, max_eq_right h4, min_eq_right h3]
  | coe r =>
    induction y using EReal.rec with
    | bot => exact absurd hy (by simp)
    | top => exact absurd ha (by simp)
    | coe y =>
      have hy' : 0 ≤ y := by exact_mod_cast hy
      have hr' : y ≤ r := by exact_mod_cast ha
      rcases (hy'.trans hr').eq_or_lt with h | h
      · subst h
        have : Ideal.div ((0 : ℝ) : EReal) (k : EReal) = 0 := by rw [div_real _ hk]; simp
        rw [this, mul_zero, mul_zero]
      · rw [quant_real hk h hy']

end Cert.Quant

end
-- ==== Proof.KernelValue.lean ====
/- What the kernel's output array holds after the run: the one grid point writes the whole of it. -/
module

public import proofs.«01_k».proof.Proof.Launch

@[expose] public section

noncomputable section

namespace Cert.KernelIdeal.A2A

open Idealize.ShloMosaic Idealize.ShloMosaic.TcCoe
open Idealize.SL.Sem
open Cert.KernelIdeal.Gen

variable {F : FTy → Type} [FloatOps F] (m : Mem0 F)

/-- Two different points' blocks share nothing, there being one point. -/
theorem out_disjoint (t t' : Fin cfg0.N) (_ : (cfg0.win 0).flush t = true) (_ : (cfg0.win 0).flush t' = true) (hne : t ≠ t') :
    Disjoint ((cfg0.win 0).blk t).view.set ((cfg0.win 0).blk t').view.set :=
  absurd ((fin_N0 t).trans (fin_N0 t').symm) hne

/-- Where the block puts its index. -/
theorem out_place (i : S4096x256.Idx) : ((cfg0.win 0).blk t0_0).view.emb i = i := by
  funext a
  apply Fin.ext
  match a with
  | ⟨0, _⟩ => show 0 * 4096 + 1 * (i 0).val = (i 0).val; omega
  | ⟨1, _⟩ => show 0 * 256 + 1 * (i 1).val = (i 1).val; omega

/-- The output window's block is the whole array, index by index. -/
theorem out_read (X : S4096x256.Idx → F .bf16) (i : S4096x256.Idx) :
    ((cfg0.win 0).blk t0_0).view.read (Elt F) X i = X i :=
  (View.read_apply _ _).trans (congrArg X (out_place i))

/-- Device `c`'s output array after the run. -/
theorem finalA_eq (c : Dev nD) : finalA m c = outAt m c := by
  funext i
  have h := congrFun ((dats (F := F) m 0 c).read_blk_arrAt_eq_flushed 0 out_disjoint cfg0.N t0_0 t0_0.isLt (flush0_0 t0_0)) i
  rw [show ((cfg0.win 0).blk t0_0).view.read (Elt F) ((dats (F := F) m 0 c).arrAt 0 cfg0.N) i = finalA m c i from out_read _ i] at h
  exact h

end Cert.KernelIdeal.A2A

end
-- ==== Proof.RefValue.lean ====
/- What the reference's result array holds after its run: the host's operations in closed form, then the one call. -/
module

public import proofs.«01_k».proof.Proof.Gen.ReferenceIdeal.Value

@[expose] public section

noncomputable section

namespace Cert.ReferenceIdeal.A2A

open Idealize.ShloMosaic Idealize.ShloMosaic.TcCoe
open Idealize.SL.Sem
open Cert.ReferenceIdeal Cert.ReferenceIdeal.Gen

variable {F : FTy → Type} [FloatOps F]

/-! ## The host's operations -/

/-- The activations. -/
def act (x : FVec F S4096x4096 .f32) (w : FVec F S4096x2048 .f32) : FVec F S4096x2048 .f32 :=
  maximumf (Host.dotGeneral dot_S4096x4096_S4096x2048_S4096x2048_1_0_0_1_n_n none x w)
    (broadcastInDim S4096x2048 ![] bcast_S_S4096x2048 (constant S_ .f32 0x00000000#32))
/-- The largest magnitude. -/
def amax (y : FVec F S4096x2048 .f32) : FVec F S_ .f32 :=
  Host.reduce FloatOps.maximumf (Host.absf y) (constant S_ .f32 0xFF800000#32) reducesTo_S4096x2048_S_d0_1 h_S_
/-- The scale. -/
def scale (a : FVec F S_ .f32) : FVec F S_ .f32 := Host.divf a (constant S_ .f32 0x43E00000#32)
/-- The codes. -/
def codes (y : FVec F S4096x2048 .f32) (s : FVec F S_ .f32) : FVec F S4096x2048 .fp8e4m3 :=
  Host.convertf .fp8e4m3 (minimumf (broadcastInDim S4096x2048 ![] bcast_S_S4096x2048 (constant S_ .f32 0x43E00000#32))
    (maximumf (broadcastInDim S4096x2048 ![] bcast_S_S4096x2048 (constant S_ .f32 0xC3E00000#32))
      (Host.divf y (broadcastInDim S4096x2048 ![] bcast_S_S4096x2048 s))))

variable (m : (ℓ : Loc nD τ sig) → Buf (Elt F) ℓ)

/-- The scale of the reference's arguments. -/
def scaleAt (c : Dev nD) : FVec F S_ .f32 :=
  scale (amax (act (m ((c : Thread nD τ).loc main_arg0)) (m ((c : Thread nD τ).loc main_arg1))))

theorem codes_entry (c : Dev nD) :
    V m c main_v9 = codes (act (m ((c : Thread nD τ).loc main_arg0)) (m ((c : Thread nD τ).loc main_arg1))) (scaleAt m c) := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append, List.nil_append]
  after_results
  rfl

theorem scale_entry (c : Dev nD) : V m c main_v10 = shapeCast S1x1 (scaleAt m c) shapeCasts_S_S1x1 := by
  show StableHlo.after (List.flatten [hostOps0, hostOps0_1, hostOps0_2]) (fun b => m (c, b)) (Proc.devRef .tc main_v10) = _
  simp only [hostOps0, hostOps0_1, hostOps0_2, List.flatten_cons, List.flatten_nil, List.append_nil, List.cons_append, List.nil_append]
  after_results
  rfl

/-! ## The call -/

/-- The grid of the call has one point. -/
theorem fin_N (t : Fin cfg0.N) : t = ⟨0, by decide⟩ := by
  revert t; decide

/-- Where the result's block puts its index. -/
theorem out_place (t : Fin cfg0.N) (i : S4096x2048.Idx) : ((cfg0.win 2).blk t).view.emb i = i := by
  obtain rfl := fin_N t
  funext a
  apply Fin.ext
  match a with
  | ⟨0, _⟩ => show 0 * 4096 + 1 * (i 0).val = (i 0).val; omega
  | ⟨1, _⟩ => show 0 * 2048 + 1 * (i 1).val = (i 1).val; omega

/-- Where the codes' block puts its index. -/
theorem codes_place (t : Fin cfg0.N) (i : S4096x2048.Idx) : ((cfg0.win 0).blk t).view.emb i = i := by
  obtain rfl := fin_N t
  funext a
  apply Fin.ext
  match a with
  | ⟨0, _⟩ => show 0 * 4096 + 1 * (i 0).val = (i 0).val; omega
  | ⟨1, _⟩ => show 0 * 2048 + 1 * (i 1).val = (i 1).val; omega

/-- Where the scale's block puts its index. -/
theorem scale_place (t : Fin cfg0.N) (i : S1x1.Idx) : ((cfg0.win 1).blk t).view.emb i = i := by
  obtain rfl := fin_N t
  funext a
  apply Fin.ext
  match a with
  | ⟨0, _⟩ => show 0 * 1 + 1 * (i 0).val = (i 0).val; omega
  | ⟨1, _⟩ => show 0 * 1 + 1 * (i 1).val = (i 1).val; omega

theorem flush_all : ∀ t : Fin cfg0.N, (cfg0.win 2).flush t = true := by decide

/-- The codes at an index and the one scale. -/
theorem codes_block (c : Dev nD) (t : Fin cfg0.N) (i : S4096x2048.Idx) : iblk m c 0 t i = V m c main_v9 i :=
  (View.read_apply _ _).trans (congrArg (V m c main_v9) (codes_place t i))
theorem scale_block (c : Dev nD) (t : Fin cfg0.N) (i : S1x1.Idx) : iblk m c 1 t i = V m c main_v10 i :=
  (View.read_apply _ _).trans (congrArg (V m c main_v10) (scale_place t i))

/-- The result array after the run. -/
def result (c : Dev nD) : FVec F S4096x2048 .bf16 := (dats m 0 c).arrAt 2 cfg0.N

/-- The one index of an array without axes. -/
abbrev only : S_.Idx := fun a => a.elim0
theorem only_eq (j : S_.Idx) : j = only := funext fun a => a.elim0

/-- The array that the call's body leaves: the codes times the scale. -/
theorem body_apply (c : Dev nD) (t : Fin cfg0.N) (i : S4096x2048.Idx) :
    out0_2 (iblk m c 0 t) (iblk m c 1 t) i = FloatOps.truncf .bf16 bitsLt_bf16_f32 (FloatOps.mulf (FloatOps.extf .f32 bitsLt_fp8e4m3_f32
      (codes (act (m ((c : Thread nD τ).loc main_arg0)) (m ((c : Thread nD τ).loc main_arg1))) (scaleAt m c) i)) (scaleAt m c only)) := by
  refine (Value.canon2_eq _ _ i).trans ?_
  show FloatOps.truncf .bf16 bitsLt_bf16_f32 (FloatOps.mulf (FloatOps.extf .f32 bitsLt_fp8e4m3_f32 (View.ld (iblk m c 0 t) r0_0 (Value.ix2_0 i)))
    (View.ld (iblk m c 1 t) r0_1 (Value.ix2_1 i))) = _
  have h0 : View.ld (iblk m c 0 t) r0_0 (Value.ix2_0 i) = codes (act (m ((c : Thread nD τ).loc main_arg0)) (m ((c : Thread nD τ).loc main_arg1))) (scaleAt m c) i := by
    rw [← codes_entry, ← codes_block m c t i]
    refine congrArg (iblk m c 0 t) (funext fun a => Fin.ext ?_)
    match a with
    | ⟨0, _⟩ => show 0 + 1 * (i 0).val = (i 0).val; omega
    | ⟨1, _⟩ => show 0 + 1 * (i 1).val = (i 1).val; omega
  have h1 : View.ld (iblk m c 1 t) r0_1 (Value.ix2_1 i) = scaleAt m c only := by
    refine (scale_block m c t _).trans ?_
    rw [scale_entry]
    exact congrArg (scaleAt m c) (only_eq _)
  rw [h0, h1]

/-- The result, index by index. -/
theorem result_apply (c : Dev nD) (i : S4096x2048.Idx) :
    result m c i = FloatOps.truncf .bf16 bitsLt_bf16_f32 (FloatOps.mulf (FloatOps.extf .f32 bitsLt_fp8e4m3_f32
      (codes (act (m ((c : Thread nD τ).loc main_arg0)) (m ((c : Thread nD τ).loc main_arg1))) (scaleAt m c) i)) (scaleAt m c only)) := by
  have h := congrFun ((Value.blocks2 m c ⟨0, by decide⟩ (flush_all _)).trans (Value.flushed2 m c _)) i
  rw [View.read_apply, out_place] at h
  exact h.trans (body_apply m c _ i)

end Cert.ReferenceIdeal.A2A

end
-- ==== Proof.Max.lean ====
/- The largest entries over the extended reals: what is below them. -/
module

public import proofs.«01_k».proof.Proof.Quant
public import proofs.«01_k».proof.Proof.KernelValue
public import proofs.«01_k».proof.Proof.RefValue

@[expose] public section

noncomputable section

namespace Cert.KernelIdeal.A2A

open Idealize.ShloMosaic Idealize.ShloMosaic.TcCoe
open Idealize.SL.Sem
open Cert.KernelIdeal.Gen

/-! ## The kernel's -/

/-- A maximum over all axes of an array under another shape is at most `B` when every entry is. -/
theorem max_all_le {s s' t : Shape} {axes : List (Fin s.rank)} (h : s.Reduces axes t) (ht : ∀ b, t.size b = 1)
    (x : FVec Ideal s' .f32) (hc : s'.ShapeCasts s) (hφ : FKind.Formats .f32)
    (hacc : (0xFF800000#32 : BitVec (FTy.bits .f32)) = FKind.maximumf.neutral .f32 hφ) (j : t.Idx) (B : EReal) :
    multiReduction .maximumf axes t (shapeCast s x hc : FVec Ideal s .f32) 0xFF800000#32 h hφ hacc j ≤ B ↔ ∀ i, x i ≤ B := by
  rw [multiReduction_maximumf_eq_fold]
  refine (Finset.fold_max_le (s := Finset.univ.filter fun i => h.drop i = j) (f := fun i => x (Shape.reshapeEquiv hc i))
    (b := Ideal.ofBits .f32 0xFF800000#32) (c := B)).trans ?_
  rw [Quant.start_word]
  constructor
  · rintro ⟨-, H⟩ i
    have := H ((Shape.reshapeEquiv hc).symm i) (Finset.mem_filter.mpr ⟨Finset.mem_univ _, funext fun b => Fin.ext (by
      have := (h.drop ((Shape.reshapeEquiv hc).symm i) b).isLt; have := (j b).isLt; have := ht b; omega)⟩)
    rwa [Equiv.apply_symm_apply] at this
  · exact fun H => ⟨bot_le, fun i _ => H _⟩

/-- An entry of an array under another shape is an entry of the array. -/
theorem extract_cast {α : Type} {s u : Shape} (x : s.Idx → α) (hc : s.ShapeCasts u) (pos : Fin u.rank → ℕ) (hp : ∀ a, pos a < u.size a) :
    extractAt pos (shapeCast u x hc) hp = x (Shape.reshapeEquiv hc fun a => ⟨pos a, hp a⟩) := rfl

theorem blkMax_le (y : FVec Ideal S512x256 .f32) (B : EReal) : blkMax (F := Ideal) y ≤ B ↔ ∀ i, y i ≤ B := by
  unfold blkMax
  rw [extract_cast]
  exact max_all_le _ (by decide) _ _ _ _ _ _

theorem tabMax_le (a : FVec Ideal S8x128 .f32) (B : EReal) : tabMax (F := Ideal) a ≤ B ↔ ∀ i, a i ≤ B := by
  unfold tabMax
  rw [extract_cast]
  exact max_all_le _ (by decide) _ _ _ _ _ _

/-- One more block. -/
theorem maxUpto_succ {F : FTy → Type} [FloatOps F] (m : Mem0 F) (s : Dev nD) (n : ℕ) :
    maxUpto m s (n + 1) = Scalar.maximumf (maxUpto m s n) (blkMax (yAt m s (pr s (n + 1)))) := rfl

variable (m : Mem0 Ideal)

/-- The running maximum over a device's first `n` blocks. -/
theorem maxUpto_le (s : Dev nD) (B : EReal) : ∀ n : ℕ, maxUpto m s n ≤ B ↔ 0 ≤ B ∧ ∀ k < n, ∀ i, yAt m s (pr s (k + 1)) i ≤ B
  | 0 => by
    show Ideal.ofBits .f32 0x00000000#32 ≤ B ↔ _
    rw [Ideal.ofBits_zero_f32]
    simp
  | n + 1 => by
    rw [maxUpto_succ, Ideal.scalar_maximumf_def, max_le_iff, maxUpto_le s B n, blkMax_le]
    constructor
    · rintro ⟨⟨h0, h1⟩, h2⟩
      refine ⟨h0, fun k hk => ?_⟩
      rcases Nat.lt_succ_iff_lt_or_eq.mp hk with h | rfl
      · exact h1 k h
      · exact h2
    · exact fun ⟨h0, h1⟩ => ⟨⟨h0, fun k hk => h1 k (hk.trans n.lt_succ_self)⟩, h1 n n.lt_succ_self⟩

/-- Every device is one of the eight that a device's rounds serve. -/
theorem pr_surj (s j : Dev nD) : ∃ k < 8, pr s (k + 1) = j := by
  revert s j; decide

/-- The maximum over all devices. -/
theorem gmax_le (B : EReal) : gmax m ≤ B ↔ 0 ≤ B ∧ ∀ s j i, yAt m s j i ≤ B := by
  unfold gmax
  rw [tabMax_le]
  constructor
  · intro H
    have H' := fun s : Dev nD => (maxUpto_le m s B 8).mp (H (fun a => match a with | ⟨0, _⟩ => s | ⟨1, _⟩ => (0 : Fin 128)))
    refine ⟨(H' 0).1, fun s j => ?_⟩
    obtain ⟨k, hk, rfl⟩ := pr_surj s j
    exact (H' s).2 k hk
  · exact fun ⟨h0, h1⟩ i => (maxUpto_le m (i 0) B 8).mpr ⟨h0, fun k _ => h1 _ _⟩

end Cert.KernelIdeal.A2A

namespace Cert.ReferenceIdeal.A2A

open Idealize.ShloMosaic Cert.ReferenceIdeal Cert.ReferenceIdeal.Gen

/-! ## The reference's -/

/-- The largest magnitude of entries that are not negative. -/
theorem amax_le (y : FVec Ideal S4096x2048 .f32) (hy : ∀ i, (0 : EReal) ≤ y i) (j : S_.Idx) (B : EReal) :
    amax (F := Ideal) y j ≤ B ↔ ∀ i, y i ≤ B := by
  unfold amax
  rw [Host.reduce_eq_fold]
  refine (Finset.fold_max_le (s := Finset.univ.filter fun i => reducesTo_S4096x2048_S_d0_1.drop i = j) (f := fun i => max (y i) (-(y i)))
    (b := Ideal.ofBits .f32 0xFF800000#32) (c := B)).trans ?_
  rw [Quant.start_word]
  constructor
  · exact fun ⟨_, H⟩ i => (le_max_left _ _).trans (H i (Finset.mem_filter.mpr ⟨Finset.mem_univ _, funext fun a => a.elim0⟩))
  · exact fun H => ⟨bot_le, fun i _ => max_le (H i) (((EReal.neg_le_neg_iff.mpr (hy i)).trans (by simp)).trans ((hy i).trans (H i)))⟩

end Cert.ReferenceIdeal.A2A

end
-- ==== Proof.Equation.lean ====
/- The kernel and the reference over the extended reals: the same activations, the same scale, the same result. -/
module

public import proofs.«01_k».proof.Proof.Max
public import Idealize.ShloMosaic.Lib.MatmulPlain
public import Idealize.ShloMosaic.Lib.StackMember
public import Idealize.ShloMosaic.Lib.Layout

@[expose] public section

noncomputable section

/-! ## An activation is a clipped inner product, on both sides -/

namespace Cert.ReferenceIdeal.A2A

open Idealize.ShloMosaic Idealize.ShloMosaic.ValueIdx Idealize.ShloMosaic.StackMember Cert.ReferenceIdeal Cert.ReferenceIdeal.Gen

theorem act_apply (x : FVec Ideal S4096x4096 .f32) (w : FVec Ideal S4096x2048 .f32) (r : Fin 4096) (c : Fin 2048) :
    act (F := Ideal) x w (ix2 r c) = max (∑ k : Fin 4096, x (ix2 r k) * w (ix2 k c) : EReal) 0 := by
  have h := dotGeneral_plain_apply (m := 4096) (n := 2048) none x w r c
  have hd : dot_S4096x4096_S4096x2048_S4096x2048_1_0_0_1_n_n = DotDims.plain 4096 4096 2048 := rfl
  unfold act
  rw [hd]
  refine (maximumf_apply _ _ _).trans ?_
  rw [h]
  exact congrArg (max _) Ideal.ofBits_zero_f32

theorem act_nonneg (x : FVec Ideal S4096x4096 .f32) (w : FVec Ideal S4096x2048 .f32) (i : S4096x2048.Idx) :
    (0 : EReal) ≤ act (F := Ideal) x w i := by
  obtain ⟨r, c, rfl⟩ : ∃ (r : Fin 4096) (c : Fin 2048), i = ix2 r c := ⟨i 0, i 1, eq_ix2 i⟩
  rw [act_apply]
  exact le_max_right _ _

end Cert.ReferenceIdeal.A2A

namespace Cert.KernelIdeal.A2A

open Idealize.ShloMosaic Idealize.ShloMosaic.TcCoe Idealize.ShloMosaic.ValueIdx Idealize.ShloMosaic.StackMember
open Idealize.SL.Sem
open Cert.KernelIdeal.Gen

theorem reluBlk_apply (x : FVec Ideal S512x4096 .bf16) (w : FVec Ideal S4096x256 .f32) (r : Fin 512) (c : Fin 256) :
    reluBlk (F := Ideal) x w (ix2 r c) = max (∑ k : Fin 4096, x (ix2 r k) * w (ix2 k c) : EReal) 0 := by
  have h := Ideal.matmul_plain_apply none x (truncf .bf16 w bitsLt_bf16_f32) (constant S512x256 .f32 0x00000000#32) r c
  have hd : dot_S512x4096_S4096x256_S512x256_1_0_0_1_n_n = DotDims.plain 512 4096 256 := rfl
  have hz : (constant S512x256 .f32 0x00000000#32 : FVec Ideal S512x256 .f32) (ix2 r c) = (0 : EReal) := Ideal.ofBits_zero_f32
  unfold reluBlk
  rw [hd]
  refine (maximumf_apply _ _ _).trans ?_
  unfold matmul
  rw [h, hz, zero_add]
  exact congrArg (max _) Ideal.ofBits_zero_f32

/-! ## The operands of a block, entry by entry -/

section Entries

variable {F : FTy → Type} [FloatOps F] (m : Mem0 F)

/-- Row `r` of device `s`'s rows, and column `l` of chunk `j`, in the whole arrays. -/
def rowOf (s : Dev nD) (r : Fin 512) : Fin 4096 := ⟨s.val * 512 + r.val, by have : s.val < 8 := s.isLt; omega⟩
def colOf (j : Dev nD) (l : Fin 256) : Fin 2048 := ⟨j.val * 256 + l.val, by have : j.val < 8 := j.isLt; omega⟩

theorem xAt_apply (s : Dev nD) (r : Fin 512) (k : Fin 4096) : xAt m s (ix2 r k) = m ((s : Thread nD τ).loc main_arg0) (ix2 r k) := by
  refine (View.read_apply _ _).trans (congrArg (m ((s : Thread nD τ).loc main_arg0)) (funext fun a => Fin.ext ?_))
  match a with
  | ⟨0, _⟩ => rfl
  | ⟨1, _⟩ => rfl

theorem wAt_apply (s j : Dev nD) (k : Fin 4096) (l : Fin 256) : wAt m s j (ix2 k l) = m ((s : Thread nD τ).loc main_arg1) (ix2 k (colOf j l)) := by
  refine (View.read_apply _ _).trans (congrArg (m ((s : Thread nD τ).loc main_arg1)) (funext fun a => Fin.ext ?_))
  match a with
  | ⟨0, _⟩ => show 0 + 1 * k.val = k.val; omega
  | ⟨1, _⟩ => show 256 * j.val + 1 * l.val = j.val * 256 + l.val; omega

/-- The output, by row and column. -/
theorem outAt_apply (c : Dev nD) (r : Fin 4096) (l : Fin 256) : outAt m c (ix2 r l) = outBlk m c (rowDev r) (ix2 (rowIn r) l) :=
  congrArg (outBlk m c (rowDev r)) (eq_ix2 _)

end Entries

/-! ## The activations -/

variable (m : Mem0 Ideal) (X : FVec Ideal ReferenceIdeal.S4096x4096 .f32) (W : FVec Ideal ReferenceIdeal.S4096x2048 .f32)

/-- The memory at launch holds device `c`'s rows of `X` and a copy of `W`. -/
structure Holds : Prop where
  x : ∀ c : Dev nD, m ((c : Thread nD τ).loc main_arg0) = Layout.block ⟨2, ![512, 4096]⟩ ⟨2, ![4096, 4096]⟩ 0 8 c X
  w : ∀ c : Dev nD, m ((c : Thread nD τ).loc main_arg1) = W

variable {m X W} (H : Holds m X W)
include H

open ReferenceIdeal.A2A (act amax act_apply act_nonneg amax_le only)

theorem Holds.x_entry (s : Dev nD) (r : Fin 512) (k : Fin 4096) : xAt m s (ix2 r k) = X (ix2 (rowOf s r) k) := by
  rw [xAt_apply, H.x s]
  refine congrArg X (funext fun a => Fin.ext ?_)
  match a with
  | ⟨0, _⟩ => rfl
  | ⟨1, _⟩ => rfl

theorem Holds.w_entry (s j : Dev nD) (k : Fin 4096) (l : Fin 256) : wAt m s j (ix2 k l) = W (ix2 k (colOf j l)) := by
  rw [wAt_apply, H.w s]

/-- Device `s`'s block for device `j` is that part of the reference's activations. -/
theorem Holds.y_entry (s j : Dev nD) (r : Fin 512) (l : Fin 256) :
    yAt m s j (ix2 r l) = act (F := Ideal) X W (ix2 (rowOf s r) (colOf j l)) := by
  unfold yAt
  rw [reluBlk_apply, act_apply]
  refine congrArg (max · 0) (Finset.sum_congr rfl fun k _ => ?_)
  rw [H.w_entry]
  exact congrArg (· * W (ix2 k (colOf j l))) (H.x_entry s r k)

omit H in
/-- Every entry of the whole array lies in some device's block for some device. -/
theorem row_surj (r : Fin 4096) : rowOf (rowDev r) (rowIn r) = r :=
  Fin.ext (show r.val / 512 * 512 + r.val % 512 = r.val by omega)
omit H in
theorem col_surj (c : Fin 2048) : ∃ j l, colOf j l = c :=
  ⟨⟨c.val / 256, by have := c.isLt; show _ < 8; omega⟩, ⟨c.val % 256, Nat.mod_lt _ (by decide)⟩,
    Fin.ext (show c.val / 256 * 256 + c.val % 256 = c.val by omega)⟩

/-- The largest activation. -/
theorem Holds.gmax_eq : gmax m = amax (F := Ideal) (act X W) only := by
  refine eq_of_forall_ge_iff fun B => ?_
  rw [gmax_le, amax_le _ (act_nonneg X W)]
  constructor
  · rintro ⟨-, h⟩ i
    obtain ⟨r, c, rfl⟩ : ∃ (r : Fin 4096) (c : Fin 2048), i = ix2 r c := ⟨i 0, i 1, eq_ix2 i⟩
    obtain ⟨j, l, rfl⟩ := col_surj c
    have := h (rowDev r) j (ix2 (rowIn r) l)
    rwa [H.y_entry, row_surj] at this
  · intro h
    refine ⟨(act_nonneg X W (ix2 (0 : Fin 4096) (0 : Fin 2048))).trans (h _), fun s j i => ?_⟩
    obtain ⟨r, l, rfl⟩ : ∃ (r : Fin 512) (l : Fin 256), i = ix2 r l := ⟨i 0, i 1, eq_ix2 i⟩
    rw [H.y_entry]
    exact h _

end Cert.KernelIdeal.A2A

/-! ## The result -/

namespace Cert.ReferenceIdeal.A2A

open Idealize.ShloMosaic Idealize.ShloMosaic.TcCoe Idealize.ShloMosaic.ValueIdx Idealize.ShloMosaic.StackMember
open Idealize.SL.Sem
open Cert.ReferenceIdeal Cert.ReferenceIdeal.Gen

/-- The reference's code times its scale. -/
theorem code_scale (y : FVec Ideal S4096x2048 .f32) (a : FVec Ideal S_ .f32) (i : S4096x2048.Idx) :
    FloatOps.truncf .bf16 bitsLt_bf16_f32 (FloatOps.mulf (FloatOps.extf .f32 bitsLt_fp8e4m3_f32 (codes (F := Ideal) y (scale a) i)) (scale (F := Ideal) a only))
      = (min ((448 : ℝ) : EReal) (max ((-448 : ℝ) : EReal) (Ideal.div (y i) (Ideal.div (a only) ((448 : ℝ) : EReal))))
          * Ideal.div (a only) ((448 : ℝ) : EReal) : EReal) := by
  rw [← Quant.bot_word, ← Quant.top_word]
  exact congrArg (fun j => min (Ideal.ofBits .f32 0x43E00000#32) (max (Ideal.ofBits .f32 0xC3E00000#32) (Ideal.div (y i) (Ideal.div (a j) (Ideal.ofBits .f32 0x43E00000#32))))
    * Ideal.div (a only) (Ideal.ofBits .f32 0x43E00000#32)) (only_eq _)

end Cert.ReferenceIdeal.A2A

namespace Cert.KernelIdeal.A2A

open Idealize.ShloMosaic Idealize.ShloMosaic.TcCoe Idealize.ShloMosaic.ValueIdx Idealize.ShloMosaic.StackMember
open Idealize.SL.Sem
open Cert.KernelIdeal.Gen

/-- An entry of a block of the output, for a largest entry `g`. -/
theorem quantBlk_apply (g : EReal) (y : FVec Ideal S512x256 .f32) (i : S512x256.Idx) :
    quantBlk (F := Ideal) (Scalar.divf (F := Ideal) (φ := .f32) (Scalar.ofBits .f32 0x43E00000#32) g)
        (Scalar.divf (F := Ideal) (φ := .f32) g (Scalar.ofBits .f32 0x43E00000#32)) (truncf .bf16 y bitsLt_bf16_f32) i
      = (min (y i * Ideal.div ((448 : ℝ) : EReal) g) ((448 : ℝ) : EReal) * Ideal.div g ((448 : ℝ) : EReal) : EReal) := by
  rw [← Quant.top_word]
  rfl

/-- What each device ends with is its columns of what the reference ends with. -/
theorem outAt_eq (m : Mem0 Ideal) (m' : (ℓ : Loc ReferenceIdeal.nD ReferenceIdeal.τ ReferenceIdeal.sig) → Buf (Elt Ideal) ℓ) (d : Dev ReferenceIdeal.nD)
    (H : Holds m (m' ((d : Thread ReferenceIdeal.nD ReferenceIdeal.τ).loc ReferenceIdeal.main_arg0)) (m' ((d : Thread ReferenceIdeal.nD ReferenceIdeal.τ).loc ReferenceIdeal.main_arg1)))
    (c : Dev nD) (h : Layout.Tiles ⟨2, ![4096, 256]⟩ ⟨2, ![4096, 2048]⟩ 1 8) :
    outAt m c = Layout.block ⟨2, ![4096, 256]⟩ ⟨2, ![4096, 2048]⟩ 1 8 c (ReferenceIdeal.A2A.result m' d) h := by
  funext i
  obtain ⟨r, l, rfl⟩ : ∃ (r : Fin 4096) (l : Fin 256), i = ix2 r l := ⟨i 0, i 1, eq_ix2 i⟩
  have hi : h.idx c (ix2 r l) = ix2 r (colOf c l) := funext fun a => Fin.ext (by
    match a with
    | ⟨0, _⟩ => rfl
    | ⟨1, _⟩ => rfl)
  have hy := H.y_entry (rowDev r) c (rowIn r) l
  rw [row_surj] at hy
  rw [Layout.block_apply, hi, ReferenceIdeal.A2A.result_apply]
  unfold ReferenceIdeal.A2A.scaleAt
  rw [ReferenceIdeal.A2A.code_scale, outAt_apply]
  unfold outBlk ybAt
  rw [quantBlk_apply, ← H.gmax_eq, ← hy]
  have hle := ((gmax_le m (gmax m)).mp le_rfl).2 (rowDev r) c (ix2 (rowIn r) l)
  have hnn : (0 : EReal) ≤ yAt m (rowDev r) c (ix2 (rowIn r) l) := by
    rw [hy]; exact ReferenceIdeal.A2A.act_nonneg _ _ _
  exact Quant.quant_eq (by norm_num) hnn hle

end Cert.KernelIdeal.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Launch
public import proofs.«01_k».proof.Proof.Same
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as given and the kernel over the ideal values are one program text, so one run serves both. -/
theorem frame_kernel : Cert.quiescent_Kernel (hKernel := Cert.Kernel.Gen.facts) := fun m ρ _ => by
  rw [Cert.KernelIdeal.A2A.defs_same]
  exact Cert.KernelIdeal.A2A.frame (F := Bits) m ρ

theorem frame_ideal : Cert.quiescent_KernelIdeal (hKernelIdeal := Cert.KernelIdeal.Gen.facts) := fun m ρ _ => Cert.KernelIdeal.A2A.frame (F := Ideal) m ρ

theorem frame_reference : Cert.quiescent_ReferenceIdeal (hReferenceIdeal := Cert.ReferenceIdeal.Gen.facts) := fun m ρ _ => Cert.ReferenceIdeal.Gen.frame m ρ

/-- Over the extended reals each device ends with its columns of what the reference ends with. -/
theorem algebraic : Cert.algebraic_KernelIdeal_ReferenceIdeal (hKernelIdeal := Cert.KernelIdeal.Gen.facts) (hReferenceIdeal := Cert.ReferenceIdeal.Gen.facts) :=
  fun m g m' g' _ hagree => ⟨Cert.ReferenceIdeal.A2A.result m' 0,
    (θ_run _ _ _).mono (fun _ h c => ⟨(h.1 c).1.trans ((Cert.KernelIdeal.A2A.finalA_eq m c).trans
        (Cert.KernelIdeal.A2A.outAt_eq m m' 0 ⟨fun c => (hagree c).1, fun c => (hagree c).2⟩ c _)), (h.1 c).2⟩)
      (Cert.KernelIdeal.A2A.run_main (F := Ideal) m g),
    (θ_run _ _ _).mono (fun _ h => h 0) (Cert.ReferenceIdeal.Value.run_blocks (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
